-- ==== Defs.lean ====
def Pre_Kernel [hPre_sized : Cert.Pre_sized.Facts] (m : (ℓ : Loc Cert.Kernel.nD Cert.Kernel.τ Cert.Kernel.sig) → Buf (Elt Bits) ℓ) : Prop :=
  ∀ c : Dev Cert.Kernel.nD,
    (Cert.Pre_sized.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_sized : Cert.Pre_sized.Facts] (m : (ℓ : Loc Cert.KernelIdeal.nD Cert.KernelIdeal.τ Cert.KernelIdeal.sig) → Buf (Elt Ideal) ℓ) : Prop :=
  ∀ c : Dev Cert.KernelIdeal.nD,
    (Cert.Pre_sized.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_sized : Cert.Pre_sized.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sized : Cert.Pre_sized.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sized : Cert.Pre_sized.Facts) (hPre_valid : Cert.Pre_valid.Facts),
    quiescent_Kernel (hKernel := hKernel) (hPre_sized := hPre_sized)
    ∧ quiescent_KernelIdeal (hKernelIdeal := hKernelIdeal) (hPre_sized := hPre_sized)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_sized.lean ====
abbrev S4096x7168 : Shape := ⟨2, ![4096, 7168]⟩
abbrev S9 : Shape := ⟨1, ![9]⟩
abbrev S9x7168x2048 : Shape := ⟨3, ![9, 7168, 2048]⟩
abbrev S9x224x2048 : Shape := ⟨3, ![9, 224, 2048]⟩
abbrev S_ : Shape := ⟨0, ![]⟩

class Facts : Prop where
  bcast_S_S9 : S_.BroadcastsInDim S9 (![] : Fin 0 → Fin S9.rank)
  reducesTo_S9_S_d0 : S9.ReducesTo [0] S_
  h_S_ : 0 < S_.numel

variable [Facts]

def fn {F : FTy → Type} [FloatOps F] (main_arg0 : FVec F S4096x7168 .bf16) (main_arg1 : IVec S9 32) (main_arg2 : FVec F S9x7168x2048 .fp8e4m3) (main_arg3 : IVec S9x224x2048 8) : IVec S9 1 :=
  let main_c : IVec S_ 32 := constantI S_ 32 0#32
  let main_v0 : IVec S9 32 := broadcastInDim S9 ![] bcast_S_S9 main_c
  let main_v1 : IVec S9 1 := cmpi .sge main_arg1 main_v0
  let main_c_0 : IVec S_ 32 := constantI S_ 32 4096#32
  let main_v2 : IVec S9 32 := broadcastInDim S9 ![] bcast_S_S9 main_c_0
  let main_v3 : IVec S9 1 := cmpi .sle main_arg1 main_v2
  let main_v4 : IVec S9 1 := andi main_v1 main_v3
  let main_c_1 : IVec S_ 32 := constantI S_ 32 0#32
  let main_v5 : IVec S_ 32 := (fun x v => Host.reduce IntOp.addi x v reducesTo_S9_S_d0 h_S_) main_arg1 main_c_1
  let main_c_2 : IVec S_ 32 := constantI S_ 32 4096#32
  let main_v6 : IVec S_ 1 := cmpi .eq main_v5 main_c_2
  let main_v7 : IVec S9 1 := broadcastInDim S9 ![] bcast_S_S9 main_v6
  let main_v8 : IVec S9 1 := andi main_v4 main_v7
  main_v8
-- ==== Pre_valid.lean ====
abbrev S4096x7168 : Shape := ⟨2, ![4096, 7168]⟩
abbrev S9 : Shape := ⟨1, ![9]⟩
abbrev S9x7168x2048 : Shape := ⟨3, ![9, 7168, 2048]⟩
abbrev S9x224x2048 : Shape := ⟨3, ![9, 224, 2048]⟩
abbrev S_ : Shape := ⟨0, ![]⟩
abbrev S9x1x1 : Shape := ⟨3, ![9, 1, 1]⟩

class Facts : Prop where
  bcast_S_S9x224x2048 : S_.BroadcastsInDim S9x224x2048 (![] : Fin 0 → Fin S9x224x2048.rank)
  bcast_S_S9 : S_.BroadcastsInDim S9 (![] : Fin 0 → Fin S9.rank)
  reducesTo_S9_S_d0 : S9.ReducesTo [0] S_
  h_S_ : 0 < S_.numel
  bcast_S9_S9x1x1_0 : S9.BroadcastsInDim S9x1x1 (![0] : Fin 1 → Fin S9x1x1.rank)
  bcast_S9x1x1_S9x224x2048_0_1_2 : S9x1x1.BroadcastsInDim S9x224x2048 (![0, 1, 2] : Fin 3 → Fin S9x224x2048.rank)

variable [Facts]

def fn {F : FTy → Type} [FloatOps F] (main_arg0 : FVec F S4096x7168 .bf16) (main_arg1 : IVec S9 32) (main_arg2 : FVec F S9x7168x2048 .fp8e4m3) (main_arg3 : IVec S9x224x2048 8) : IVec S9x224x2048 1 :=
  let main_c : IVec S_ 8 := constantI S_ 8 1#8
  let main_v0 : IVec S9x224x2048 8 := broadcastInDim S9x224x2048 ![] bcast_S_S9x224x2048 main_c
  let main_v1 : IVec S9x224x2048 1 := cmpi .uge main_arg3 main_v0
  let main_c_0 : IVec S_ 8 := constantI S_ 8 254#8
  let main_v2 : IVec S9x224x2048 8 := broadcastInDim S9x224x2048 ![] bcast_S_S9x224x2048 main_c_0
  let main_v3 : IVec S9x224x2048 1 := cmpi .ule main_arg3 main_v2
  let main_v4 : IVec S9x224x2048 1 := andi main_v1 main_v3
  let main_c_1 : IVec S_ 32 := constantI S_ 32 0#32
  let main_v5 : IVec S9 32 := broadcastInDim S9 ![] bcast_S_S9 main_c_1
  let main_v6 : IVec S9 1 := cmpi .sge main_arg1 main_v5
  let main_c_2 : IVec S_ 32 := constantI S_ 32 4096#32
  let main_v7 : IVec S9 32 := broadcastInDim S9 ![] bcast_S_S9 main_c_2
  let main_v8 : IVec S9 1 := cmpi .sle main_arg1 main_v7
  let main_v9 : IVec S9 1 := andi main_v6 main_v8
  let main_c_3 : IVec S_ 32 := constantI S_ 32 0#32
  let main_v10 : IVec S_ 32 := (fun x v => Host.reduce IntOp.addi x v reducesTo_S9_S_d0 h_S_) main_arg1 main_c_3
  let main_c_4 : IVec S_ 32 := constantI S_ 32 4096#32
  let main_v11 : IVec S_ 1 := cmpi .eq main_v10 main_c_4
  let main_v12 : IVec S9 1 := broadcastInDim S9 ![] bcast_S_S9 main_v11
  let main_v13 : IVec S9 1 := andi main_v9 main_v12
  let main_v14 : IVec S9x1x1 1 := broadcastInDim S9x1x1 ![0] bcast_S9_S9x1x1_0 main_v13
  let main_v15 : IVec S9x224x2048 1 := broadcastInDim S9x224x2048 ![0, 1, 2] bcast_S9x1x1_S9x224x2048_0_1_2 main_v14
  let main_v16 : IVec S9x224x2048 1 := andi main_v15 main_v4
  main_v16
-- ==== Kernel.lean ====
abbrev S4096x7168 : Shape := ⟨2, ![4096, 7168]⟩
abbrev S9 : Shape := ⟨1, ![9]⟩
abbrev S9x7168x2048 : Shape := ⟨3, ![9, 7168, 2048]⟩
abbrev S9x224x2048 : Shape := ⟨3, ![9, 224, 2048]⟩
abbrev S_ : Shape := ⟨0, ![]⟩
abbrev S1 : Shape := ⟨1, ![1]⟩
abbrev S24 : Shape := ⟨1, ![24]⟩
abbrev S24x1 : Shape := ⟨2, ![24, 1]⟩
abbrev S1x9 : Shape := ⟨2, ![1, 9]⟩
abbrev S24x9 : Shape := ⟨2, ![24, 9]⟩
abbrev S4096x2048 : Shape := ⟨2, ![4096, 2048]⟩
abbrev S256x7168 : Shape := ⟨2, ![256, 7168]⟩
abbrev S1x7168x512 : Shape := ⟨3, ![1, 7168, 512]⟩
abbrev S1x224x512 : Shape := ⟨3, ![1, 224, 512]⟩
abbrev S256x512 : Shape := ⟨2, ![256, 512]⟩
abbrev S7168x512 : Shape := ⟨2, ![7168, 512]⟩
abbrev S1x32x512 : Shape := ⟨3, ![1, 32, 512]⟩
abbrev S32x512 : Shape := ⟨2, ![32, 512]⟩
abbrev S1x512 : Shape := ⟨2, ![1, 512]⟩
abbrev S16x512 : Shape := ⟨2, ![16, 512]⟩

abbrev nBuf : Space → Nat
  | .hbm => 126
  | .vmem => 9
  | .smem => 4
  | _ => 0

abbrev bufTy : (tb : Table) → Fin (tcTables nBuf tb) → BufTy
  | .hbm, ⟨0, _⟩ => ⟨S4096x7168, .bf16⟩
  | .hbm, ⟨1, _⟩ => ⟨S9, .i32⟩
  | .hbm, ⟨2, _⟩ => ⟨S9x7168x2048, .fp8e4m3⟩
  | .hbm, ⟨3, _⟩ => ⟨S9x224x2048, .i8⟩
  | .hbm, ⟨4, _⟩ => ⟨S_, .i32⟩
  | .hbm, ⟨5, _⟩ => ⟨S_, .i32⟩
  | .hbm, ⟨6, _⟩ => ⟨S9, .i32⟩
  | .hbm, ⟨7, _⟩ => ⟨S9, .i32⟩
  | .hbm, ⟨8, _⟩ => ⟨S_, .i32⟩
  | .hbm, ⟨9, _⟩ => ⟨S_, .i32⟩
  | .hbm, ⟨10, _⟩ => ⟨S9, .i32⟩
  | .hbm, ⟨11, _⟩ => ⟨S9, .i32⟩
  | .hbm, ⟨12, _⟩ => ⟨S9, .i32⟩
  | .hbm, ⟨13, _⟩ => ⟨S_, .i32⟩
  | .hbm, ⟨14, _⟩ => ⟨S9, .i32⟩
  | .hbm, ⟨15, _⟩ => ⟨S9, .i1⟩
  | .hbm, ⟨16, _⟩ => ⟨S9, .i32⟩
  | .hbm, ⟨17, _⟩ => ⟨S9, .i32⟩
  | .hbm, ⟨18, _⟩ => ⟨S_, .i32⟩
  | .hbm, ⟨19, _⟩ => ⟨S9, .i32⟩
  | .hbm, ⟨20, _⟩ => ⟨S9, .i1⟩
  | .hbm, ⟨21, _⟩ => ⟨S9, .i1⟩
  | .hbm, ⟨22, _⟩ => ⟨S_, .i32⟩
  | .hbm, ⟨23, _⟩ => ⟨S9, .i32⟩
  | .hbm, ⟨24, _⟩ => ⟨S9, .i32⟩
  | .hbm, ⟨25, _⟩ => ⟨S9, .i32⟩
  | .hbm, ⟨26, _⟩ => ⟨S_, .i32⟩
  | .hbm, ⟨27, _⟩ => ⟨S9, .i32⟩
  | .hbm, ⟨28, _⟩ => ⟨S9, .i1⟩
  | .hbm, ⟨29, _⟩ => ⟨S_, .i32⟩
  | .hbm, ⟨30, _⟩ => ⟨S9, .i32⟩
  | .hbm, ⟨31, _⟩ => ⟨S9, .i32⟩
  | .hbm, ⟨32, _⟩ => ⟨S_, .i32⟩
  | .hbm, ⟨33, _⟩ => ⟨S9, .i32⟩
  | .hbm, ⟨34, _⟩ => ⟨S9, .i32⟩
  | .hbm, ⟨35, _⟩ => ⟨S_, .i32⟩
  | .hbm, ⟨36, _⟩ => ⟨S_, .i32⟩
  | .hbm, ⟨37, _⟩ => ⟨S9, .i32⟩
  | .hbm, ⟨38, _⟩ => ⟨S9, .i32⟩
  | .hbm, ⟨39, _⟩ => ⟨S9, .i32⟩
  | .hbm, ⟨40, _⟩ => ⟨S_, .i32⟩
  | .hbm, ⟨41, _⟩ => ⟨S9, .i32⟩
  | .hbm, ⟨42, _⟩ => ⟨S9, .i1⟩
  | .hbm, ⟨43, _⟩ => ⟨S9, .i32⟩
  | .hbm, ⟨44, _⟩ => ⟨S9, .i32⟩
  | .hbm, ⟨45, _⟩ => ⟨S_, .i32⟩
  | .hbm, ⟨46, _⟩ => ⟨S9, .i32⟩
  | .hbm, ⟨47, _⟩ => ⟨S9, .i1⟩
  | .hbm, ⟨48, _⟩ => ⟨S9, .i1⟩
  | .hbm, ⟨49, _⟩ => ⟨S_, .i32⟩
  | .hbm, ⟨50, _⟩ => ⟨S9, .i32⟩
  | .hbm, ⟨51, _⟩ => ⟨S9, .i32⟩
  | .hbm, ⟨52, _⟩ => ⟨S9, .i32⟩
  | .hbm, ⟨53, _⟩ => ⟨S9, .i32⟩
  | .hbm, ⟨54, _⟩ => ⟨S_, .i32⟩
  | .hbm, ⟨55, _⟩ => ⟨S_, .i32⟩
  | .hbm, ⟨56, _⟩ => ⟨S9, .i32⟩
  | .hbm, ⟨57, _⟩ => ⟨S9, .i32⟩
  | .hbm, ⟨58, _⟩ => ⟨S_, .i32⟩
  | .hbm, ⟨59, _⟩ => ⟨S_, .i32⟩
  | .hbm, ⟨60, _⟩ => ⟨S9, .i32⟩
  | .hbm, ⟨61, _⟩ => ⟨S9, .i32⟩
  | .hbm, ⟨62, _⟩ => ⟨S1, .i32⟩
  | .hbm, ⟨63, _⟩ => ⟨S_, .i32⟩
  | .hbm, ⟨64, _⟩ => ⟨S1, .i32⟩
  | .hbm, ⟨65, _⟩ => ⟨S_, .i32⟩
  | .hbm, ⟨66, _⟩ => ⟨S_, .i32⟩
  | .hbm, ⟨67, _⟩ => ⟨S24, .i32⟩
  | .hbm, ⟨68, _⟩ => ⟨S24, .i32⟩
  | .hbm, ⟨69, _⟩ => ⟨S24, .i1⟩
  | .hbm, ⟨70, _⟩ => ⟨S_, .i32⟩
  | .hbm, ⟨71, _⟩ => ⟨S_, .i32⟩
  | .hbm, ⟨72, _⟩ => ⟨S24, .i32⟩
  | .hbm, ⟨73, _⟩ => ⟨S24, .i32⟩
  | .hbm, ⟨74, _⟩ => ⟨S24x1, .i32⟩
  | .hbm, ⟨75, _⟩ => ⟨S9, .i32⟩
  | .hbm, ⟨76, _⟩ => ⟨S1x9, .i32⟩
  | .hbm, ⟨77, _⟩ => ⟨S24x9, .i32⟩
  | .hbm, ⟨78, _⟩ => ⟨S24x9, .i32⟩
  | .hbm, ⟨79, _⟩ => ⟨S24x9, .i1⟩
  | .hbm, ⟨80, _⟩ => ⟨S24x9, .i32⟩
  | .hbm, ⟨81, _⟩ => ⟨S_, .i32⟩
  | .hbm, ⟨82, _⟩ => ⟨S_, .i32⟩
  | .hbm, ⟨83, _⟩ => ⟨S24, .i32⟩
  | .hbm, ⟨84, _⟩ => ⟨S24, .i1⟩
  | .hbm, ⟨85, _⟩ => ⟨S_, .i32⟩
  | .hbm, ⟨86, _⟩ => ⟨S24, .i32⟩
  | .hbm, ⟨87, _⟩ => ⟨S24, .i32⟩
  | .hbm, ⟨88, _⟩ => ⟨S24, .i32⟩
  | .hbm, ⟨89, _⟩ => ⟨S24x1, .i32⟩
  | .hbm, ⟨90, _⟩ => ⟨S24, .i32⟩
  | .hbm, ⟨91, _⟩ => ⟨S24, .i32⟩
  | .hbm, ⟨92, _⟩ => ⟨S_, .i32⟩
  | .hbm, ⟨93, _⟩ => ⟨S24, .i32⟩
  | .hbm, ⟨94, _⟩ => ⟨S24, .i1⟩
  | .hbm, ⟨95, _⟩ => ⟨S_, .i32⟩
  | .hbm, ⟨96, _⟩ => ⟨S24, .i32⟩
  | .hbm, ⟨97, _⟩ => ⟨S24, .i32⟩
  | .hbm, ⟨98, _⟩ => ⟨S24, .i32⟩
  | .hbm, ⟨99, _⟩ => ⟨S24x1, .i32⟩
  | .hbm, ⟨100, _⟩ => ⟨S24, .i32⟩
  | .hbm, ⟨101, _⟩ => ⟨S_, .i32⟩
  | .hbm, ⟨102, _⟩ => ⟨S24, .i32⟩
  | .hbm, ⟨103, _⟩ => ⟨S24, .i1⟩
  | .hbm, ⟨104, _⟩ => ⟨S_, .i32⟩
  | .hbm, ⟨105, _⟩ => ⟨S24, .i32⟩
  | .hbm, ⟨106, _⟩ => ⟨S24, .i32⟩
  | .hbm, ⟨107, _⟩ => ⟨S24, .i32⟩
  | .hbm, ⟨108, _⟩ => ⟨S24x1, .i32⟩
  | .hbm, ⟨109, _⟩ => ⟨S24, .i32⟩
  | .hbm, ⟨110, _⟩ => ⟨S_, .i32⟩
  | .hbm, ⟨111, _⟩ => ⟨S_, .i32⟩
  | .hbm, ⟨112, _⟩ => ⟨S24, .i32⟩
  | .hbm, ⟨113, _⟩ => ⟨S_, .i32⟩
  | .hbm, ⟨114, _⟩ => ⟨S24, .i32⟩
  | .hbm, ⟨115, _⟩ => ⟨S24, .i1⟩
  | .hbm, ⟨116, _⟩ => ⟨S_, .i32⟩
  | .hbm, ⟨117, _⟩ => ⟨S24, .i32⟩
  | .hbm, ⟨118, _⟩ => ⟨S24, .i32⟩
  | .hbm, ⟨119, _⟩ => ⟨S24, .i32⟩
  | .hbm, ⟨120, _⟩ => ⟨S24x1, .i32⟩
  | .hbm, ⟨121, _⟩ => ⟨S24, .i32⟩
  | .hbm, ⟨122, _⟩ => ⟨S_, .i32⟩
  | .hbm, ⟨123, _⟩ => ⟨S_, .i32⟩
  | .hbm, ⟨124, _⟩ => ⟨S24, .i32⟩
  | .hbm, ⟨125, _⟩ => ⟨S4096x2048, .bf16⟩
  | .local _ .vmem, ⟨0, _⟩ => ⟨S256x7168, .bf16⟩
  | .local _ .vmem, ⟨1, _⟩ => ⟨S256x7168, .bf16⟩
  | .local _ .vmem, ⟨2, _⟩ => ⟨S1x7168x512, .fp8e4m3⟩
  | .local _ .vmem, ⟨3, _⟩ => ⟨S1x7168x512, .fp8e4m3⟩
  | .local _ .vmem, ⟨4, _⟩ => ⟨S1x224x512, .i8⟩
  | .local _ .vmem, ⟨5, _⟩ => ⟨S1x224x512, .i8⟩
  | .local _ .vmem, ⟨6, _⟩ => ⟨S256x512, .bf16⟩
  | .local _ .vmem, ⟨7, _⟩ => ⟨S256x512, .bf16⟩
  | .local _ .vmem, ⟨8, _⟩ => ⟨S7168x512, .bf16⟩
  | .local _ .smem, ⟨0, _⟩ => ⟨S24, .i32⟩
  | .local _ .smem, ⟨1, _⟩ => ⟨S24, .i32⟩
  | .local _ .smem, ⟨2, _⟩ => ⟨S24, .i32⟩
  | .local _ .smem, ⟨3, _⟩ => ⟨S24, .i32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_c : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_0 : Ref sig .tc := ⟨.hbm, 22, rfl⟩
abbrev main_call1_v12 : Ref sig .tc := ⟨.hbm, 23, rfl⟩
abbrev main_call1_v13 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_c : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_0 : Ref sig .tc := ⟨.hbm, 49, rfl⟩
abbrev main_call2_v12 : Ref sig .tc := ⟨.hbm, 50, rfl⟩
abbrev main_call2_v13 : Ref sig .tc := ⟨.hbm, 51, rfl⟩
abbrev main_v9 : Ref sig .tc := ⟨.hbm, 52, rfl⟩
abbrev main_v10 : Ref sig .tc := ⟨.hbm, 53, rfl⟩
abbrev main_c_4 : Ref sig .tc := ⟨.hbm, 54, rfl⟩
abbrev main_call3_v0 : Ref sig .tc := ⟨.hbm, 55, rfl⟩
abbrev main_call3_v1 : Ref sig .tc := ⟨.hbm, 56, rfl⟩
abbrev main_v11 : Ref sig .tc := ⟨.hbm, 57, rfl⟩
abbrev main_call4_call0_c : Ref sig .tc := ⟨.hbm, 58, rfl⟩
abbrev main_call4_call0_v0 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_c_5 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_c_6 : Ref sig .tc := ⟨.hbm, 81, rfl⟩
abbrev main_c_7 : Ref sig .tc := ⟨.hbm, 82, rfl⟩
abbrev main_v33 : Ref sig .tc := ⟨.hbm, 83, rfl⟩
abbrev main_v34 : Ref sig .tc := ⟨.hbm, 84, rfl⟩
abbrev main_c_8 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_c_9 : Ref sig .tc := ⟨.hbm, 92, rfl⟩
abbrev main_v41 : Ref sig .tc := ⟨.hbm, 93, rfl⟩
abbrev main_v42 : Ref sig .tc := ⟨.hbm, 94, rfl⟩
abbrev main_c_10 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_c_11 : Ref sig .tc := ⟨.hbm, 101, rfl⟩
abbrev main_v49 : Ref sig .tc := ⟨.hbm, 102, rfl⟩
abbrev main_v50 : Ref sig .tc := ⟨.hbm, 103, rfl⟩
abbrev main_c_12 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_c_13 : Ref sig .tc := ⟨.hbm, 110, rfl⟩
abbrev main_call5_v0 : Ref sig .tc := ⟨.hbm, 111, rfl⟩
abbrev main_call5_v1 : Ref sig .tc := ⟨.hbm, 112, rfl⟩
abbrev main_c_14 : Ref sig .tc := ⟨.hbm, 113, rfl⟩
abbrev main_v57 : Ref sig .tc := ⟨.hbm, 114, rfl⟩
abbrev main_v58 : Ref sig .tc := ⟨.hbm, 115, rfl⟩
abbrev main_c_15 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_c_16 : Ref sig .tc := ⟨.hbm, 122, rfl⟩
abbrev main_call6_v0 : Ref sig .tc := ⟨.hbm, 123, rfl⟩
abbrev main_call6_v1 : Ref sig .tc := ⟨.hbm, 124, rfl⟩
abbrev main_v65 : Ref sig .tc := ⟨.hbm, 125, rfl⟩
abbrev main_v32 : Ref sig .tc := ⟨.smem, 0, rfl⟩
abbrev main_v48 : Ref sig .tc := ⟨.smem, 1, rfl⟩
abbrev main_v56 : Ref sig .tc := ⟨.smem, 2, rfl⟩
abbrev main_v64 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 24], ![false, false]⟩

abbrev pre0 : Pipeline.Prefetch sig := ⟨4, ![main_v32.idx, main_v48.idx, main_v56.idx, main_v64.idx], fun | 0 => main_v32.names | 1 => main_v48.names | 2 => main_v56.names | 3 => main_v64.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
@[reducible] def k0_t1_loop : Scf.Loop 32 :=
  let c0_i32_9 : BitVec 32 := 0#32
  let c7_i32 : BitVec 32 := 7#32
  let v35 : BitVec 32 := Scalar.addi c0_i32_9 c7_i32
  let c1_i32_10 : BitVec 32 := 1#32
  ⟨c0_i32_9, v35, c1_i32_10⟩
def k0_mult1 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c32_i32 : BitVec 32 := 32#32
  let v38 : BitVec 32 := Scalar.muli v37 c32_i32
  v38
def k0_off3 (k0_t1 : Fin k0_t1_loop.trips) : Fin 3 → Nat :=
  let c0_14 : Index := 0#32
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c32_i32 : BitVec 32 := 32#32
  let v38 : BitVec 32 := Scalar.muli v37 c32_i32
  let v39 : BitVec 32 := v38
  let v40 : Index := Scalar.indexCast v39
  let c0_15 : Index := 0#32
  ![0, v40.toNat, 0]
def k0_mult2 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32 : BitVec 32 := 1024#32
  let v49 : BitVec 32 := Scalar.muli v37 c1024_i32
  v49
def k0_off4 (k0_t1 : Fin k0_t1_loop.trips) (c0_i32_17 : BitVec 32) : Fin 3 → Nat :=
  let c0_18 : Index := 0#32
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32 : BitVec 32 := 1024#32
  let v49 : BitVec 32 := Scalar.muli v37 c1024_i32
  let v50 : BitVec 32 := v49
  let v51 : BitVec 32 := Scalar.addi v50 c0_i32_17
  let v52 : Index := Scalar.indexCast v51
  let c0_19 : Index := 0#32
  ![0, v52.toNat, 0]
def k0_off5 (k0_t1 : Fin k0_t1_loop.trips) (c0_i32_17 : BitVec 32) : Fin 2 → Nat :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32 : BitVec 32 := 1024#32
  let v49 : BitVec 32 := Scalar.muli v37 c1024_i32
  let v50 : BitVec 32 := v49
  let v51 : BitVec 32 := Scalar.addi v50 c0_i32_17
  let v61 : Index := Scalar.indexCast v51
  let c0_20 : Index := 0#32
  ![v61.toNat, 0]
def k0_mult3 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_21 : BitVec 32 := 1024#32
  let v65 : BitVec 32 := Scalar.muli v37 c1024_i32_21
  v65
def k0_mult4 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_26 : BitVec 32 := 1024#32
  let v81 : BitVec 32 := Scalar.muli v37 c1024_i32_26
  v81
def k0_mult5 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_30 : BitVec 32 := 1024#32
  let v97 : BitVec 32 := Scalar.muli v37 c1024_i32_30
  v97
def k0_mult6 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_34 : BitVec 32 := 1024#32
  let v113 : BitVec 32 := Scalar.muli v37 c1024_i32_34
  v113
def k0_mult7 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_38 : BitVec 32 := 1024#32
  let v129 : BitVec 32 := Scalar.muli v37 c1024_i32_38
  v129
def k0_mult8 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_42 : BitVec 32 := 1024#32
  let v145 : BitVec 32 := Scalar.muli v37 c1024_i32_42
  v145
def k0_mult9 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_46 : BitVec 32 := 1024#32
  let v161 : BitVec 32 := Scalar.muli v37 c1024_i32_46
  v161
def k0_mult10 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_50 : BitVec 32 := 1024#32
  let v177 : BitVec 32 := Scalar.muli v37 c1024_i32_50
  v177
def k0_mult11 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_55 : BitVec 32 := 1024#32
  let v193 : BitVec 32 := Scalar.muli v37 c1024_i32_55
  v193
def k0_mult12 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_59 : BitVec 32 := 1024#32
  let v209 : BitVec 32 := Scalar.muli v37 c1024_i32_59
  v209
def k0_mult13 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_63 : BitVec 32 := 1024#32
  let v225 : BitVec 32 := Scalar.muli v37 c1024_i32_63
  v225
def k0_mult14 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_67 : BitVec 32 := 1024#32
  let v241 : BitVec 32 := Scalar.muli v37 c1024_i32_67
  v241
def k0_mult15 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_71 : BitVec 32 := 1024#32
  let v257 : BitVec 32 := Scalar.muli v37 c1024_i32_71
  v257
def k0_mult16 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_75 : BitVec 32 := 1024#32
  let v273 : BitVec 32 := Scalar.muli v37 c1024_i32_75
  v273
def k0_mult17 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_79 : BitVec 32 := 1024#32
  let v289 : BitVec 32 := Scalar.muli v37 c1024_i32_79
  v289
def k0_mult18 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_83 : BitVec 32 := 1024#32
  let v305 : BitVec 32 := Scalar.muli v37 c1024_i32_83
  v305
def k0_mult19 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_87 : BitVec 32 := 1024#32
  let v321 : BitVec 32 := Scalar.muli v37 c1024_i32_87
  v321
def k0_mult20 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_91 : BitVec 32 := 1024#32
  let v337 : BitVec 32 := Scalar.muli v37 c1024_i32_91
  v337
def k0_mult21 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_95 : BitVec 32 := 1024#32
  let v353 : BitVec 32 := Scalar.muli v37 c1024_i32_95
  v353
def k0_mult22 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_99 : BitVec 32 := 1024#32
  let v369 : BitVec 32 := Scalar.muli v37 c1024_i32_99
  v369
def k0_mult23 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_103 : BitVec 32 := 1024#32
  let v385 : BitVec 32 := Scalar.muli v37 c1024_i32_103
  v385
def k0_mult24 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_107 : BitVec 32 := 1024#32
  let v401 : BitVec 32 := Scalar.muli v37 c1024_i32_107
  v401
def k0_mult25 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_111 : BitVec 32 := 1024#32
  let v417 : BitVec 32 := Scalar.muli v37 c1024_i32_111
  v417
def k0_mult26 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_115 : BitVec 32 := 1024#32
  let v433 : BitVec 32 := Scalar.muli v37 c1024_i32_115
  v433
def k0_mult27 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_119 : BitVec 32 := 1024#32
  let v449 : BitVec 32 := Scalar.muli v37 c1024_i32_119
  v449
def k0_mult28 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_123 : BitVec 32 := 1024#32
  let v465 : BitVec 32 := Scalar.muli v37 c1024_i32_123
  v465
def k0_mult29 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_127 : BitVec 32 := 1024#32
  let v481 : BitVec 32 := Scalar.muli v37 c1024_i32_127
  v481
def k0_mult30 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_131 : BitVec 32 := 1024#32
  let v497 : BitVec 32 := Scalar.muli v37 c1024_i32_131
  v497
def k0_mult31 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_135 : BitVec 32 := 1024#32
  let v513 : BitVec 32 := Scalar.muli v37 c1024_i32_135
  v513
def k0_mult32 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_139 : BitVec 32 := 1024#32
  let v529 : BitVec 32 := Scalar.muli v37 c1024_i32_139
  v529
def k0_mult33 (k0_t1 : Fin k0_t1_loop.trips) : BitVec 32 :=
  let c0_i32_13 : BitVec 32 := 0#32
  let c0_i32_9 : BitVec 32 := 0#32
  let c1_i32_10 : BitVec 32 := 1#32
  let arg11 : BitVec 32 := Scf.iv c0_i32_9 c1_i32_10 k0_t1
  let c1_i32_12 : BitVec 32 := 1#32
  let v36 : BitVec 32 := Scalar.muli arg11 c1_i32_12
  let v37 : BitVec 32 := Scalar.addi c0_i32_13 v36
  let c1024_i32_143 : BitVec 32 := 1024#32
  let v545 : BitVec 32 := Scalar.muli v37 c1024_i32_143
  v545
def k0_off6 (i : grid0.Coords) : Fin 1 → Nat :=
  let arg1 : BitVec 32 := BitVec.ofNat 32 (i 1).val
  let v14 : Index := Scalar.indexCast arg1
  ![v14.toNat]
def cc0_transform_0 (k0_off1_inb : ∀ i : grid0.Coords, ∀ a, (k0_off1 i) a + S1.size a ≤ S24.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S24) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S24) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S24) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S24.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S24) ![v0.toNat] S1.size (k0_off1_inb i)) numel1_S1
  let c0_i32 : BitVec 32 := 0#32
  ![v1.toNat, arg0.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x7168x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x224x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4096x7168 : Shape := ⟨2, ![4096, 7168]⟩
abbrev S9 : Shape := ⟨1, ![9]⟩
abbrev S9x7168x2048 : Shape := ⟨3, ![9, 7168, 2048]⟩
abbrev S9x224x2048 : Shape := ⟨3, ![9, 224, 2048]⟩
abbrev S4096x2048 : Shape := ⟨2, ![4096, 2048]⟩
abbrev S1 : Shape := ⟨1, ![1]⟩
abbrev S1x224x2048 : Shape := ⟨3, ![1, 224, 2048]⟩
abbrev S224x2048 : Shape := ⟨2, ![224, 2048]⟩
abbrev S1x7168x2048 : Shape := ⟨3, ![1, 7168, 2048]⟩
abbrev S7168x2048 : Shape := ⟨2, ![7168, 2048]⟩
abbrev S224x32x2048 : Shape := ⟨3, ![224, 32, 2048]⟩
abbrev S224x1x2048 : Shape := ⟨3, ![224, 1, 2048]⟩

abbrev nBuf : Space → Nat
  | .hbm => 5
  | .vmem => 4
  | .smem => 1
  | _ => 0

abbrev bufTy : (tb : Table) → Fin (tcTables nBuf tb) → BufTy
  | .hbm, ⟨0, _⟩ => ⟨S4096x7168, .bf16⟩
  | .hbm, ⟨1, _⟩ => ⟨S9, .i32⟩
  | .hbm, ⟨2, _⟩ => ⟨S9x7168x2048, .fp8e4m3⟩
  | .hbm, ⟨3, _⟩ => ⟨S9x224x2048, .i8⟩
  | .hbm, ⟨4, _⟩ => ⟨S4096x2048, .bf16⟩
  | .local _ .vmem, ⟨0, _⟩ => ⟨S4096x7168, .bf16⟩
  | .local _ .vmem, ⟨1, _⟩ => ⟨S9x7168x2048, .fp8e4m3⟩
  | .local _ .vmem, ⟨2, _⟩ => ⟨S9x224x2048, .i8⟩
  | .local _ .vmem, ⟨3, _⟩ => ⟨S4096x2048, .bf16⟩
  | .local _ .smem, ⟨0, _⟩ => ⟨S9, .i32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .smem S9 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x7168x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x224x2048 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Kernel.Points.lean ====
/- The staging memrefs and the body of the kernel at one point. -/
module

public import proofs.«01_k».proof.Proof.Gen.Kernel
public import Idealize.ShloMosaic.Lib.Pipeline.Kit

@[expose] public section

noncomputable section

namespace Cert.Kernel.Run

open Cert.Kernel.Gen Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0: no schedule fact — its index map reads a prefetched table, so where it is fetched or written back depends on the tables' contents
-- window 1: no schedule fact — its index map reads a prefetched table, so where it is fetched or written back depends on the tables' contents
-- window 2: no schedule fact — its index map reads a prefetched table, so where it is fetched or written back depends on the tables' contents
-- window 3: no schedule fact — its index map reads a prefetched table, so where it is fetched or written back depends on the tables' contents

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_grouped_matmul (grid0.coords t) (Memref.whole main_v32) (Memref.isWhole_whole _) (Memref.whole main_v48) (Memref.isWhole_whole _) (Memref.whole main_v56) (Memref.isWhole_whole _) (Memref.whole main_v64) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _)

end Cert.Kernel.Run

end
-- ==== Proof.Kernel.Runs.lean ====
/- What the runs of the printed kernel share: @main up to the pallas_call, the prefetched tables, the windows' blocks. -/
module

public import proofs.«01_k».proof.Proof.Gen.Kernel.Launch
public import proofs.«01_k».proof.Proof.Gen.Kernel.Skeleton
public import proofs.«01_k».proof.Proof.Gen.Kernel.Loops
public import proofs.«01_k».proof.Proof.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S24 .i32 := Memref.whole main_v32
abbrev htbM0_0 : tbM0_0.IsWhole := Memref.isWhole_whole _
abbrev tbM0_1 : Memref sig .tc .smem S24 .i32 := Memref.whole main_v48
abbrev htbM0_1 : tbM0_1.IsWhole := Memref.isWhole_whole _
abbrev tbM0_2 : Memref sig .tc .smem S24 .i32 := Memref.whole main_v56
abbrev htbM0_2 : tbM0_2.IsWhole := Memref.isWhole_whole _
abbrev tbM0_3 : Memref sig .tc .smem S24 .i32 := Memref.whole main_v64
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      (Pipeline.RDat.FramePost.arr_in h c 1 rfl).trans ((hA c 1).trans (V_main_arg2 m c)),
      (Pipeline.RDat.FramePost.arr_in h c 2 rfl).trans ((hA c 2).trans (V_main_arg3 m c))⟩) h

/-! ## The body's branch conditions -/

/-- The condition of the body's `scf.if` 0: over WORDS the body reads from its tables or input SMEM windows
    (`v2`, `v6`), so no function of the point — a case variable: a hypothesis of each run, a `by_cases`
    of the obligation and an `if` of `outsAt`, stated over the argument blocks' words there. -/
abbrev cond0_0 (i : grid0.Coords) (v2 : BitVec 32) (v6 : BitVec 32) : Prop := (Scalar.cmpi .ne (Scalar.extui (Scalar.ori (Scalar.cmpi .eq (BitVec.ofNat 32 (i 1).val) 0#32) (Scalar.cmpi .ne v2 v6))) 0#32) = 1#1

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S256x7168 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x7168x512 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x224x512 .i8 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x512 .bf16 := spec0_3.stage ((cfgM m hO).slots t 3)
abbrev hs0_3 (hO : Ok m) (t : Fin (cfgM m hO).N) : (ms0_3 m hO t).IsWhole := hstage0_3 (((cfgM m hO).slots t 3).cast nbuf0_3)
/-- The scratch operands: whole scoped buffers of the kernel's own, passed beside the windows. -/
abbrev scM0_0 : Memref sig .tc .vmem S7168x512 .bf16 := Memref.whole cc0_scratch0

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Run

end
-- ==== Proof.WorkList.lean ====
/- The work list on natural numbers: which expert and which row tile each of the 24 items takes, and the few
   facts about neighbouring items that the rest of the proof reads. -/
module

public import Idealize.ShloMosaic.Lib.Routing.OpsSet
public import Idealize.ShloMosaic.Lib.Routing.OpsPair
public import Idealize.ShloMosaic.Lib.Routing.Words

@[expose] public section

namespace Cert.WorkList

variable (s : Nat → Nat)

/-- Where the rows of group `g` end: the sizes of the groups up to `g`, added. -/
def en (g : Nat) : Nat := ((List.range (g + 1)).map s).sum
/-- Where they start. -/
def st (g : Nat) : Nat := en s g - s g
/-- The first row tile that group `g` meets. -/
def fi (g : Nat) : Nat := st s g / 256
/-- How many row tiles group `g` meets. -/
def nt (g : Nat) : Nat := if 0 < s g then (en s g + 255) / 256 - fi s g else 0
/-- How many items the groups up to `g` take. -/
def cu (g : Nat) : Nat := ((List.range (g + 1)).map (nt s)).sum
/-- The first item of group `g`. -/
def ba (g : Nat) : Nat := cu s g - nt s g
/-- The number of items in use. -/
def total : Nat := ba s 8 + nt s 8
/-- Item `i`, or the last item in use if `i` is past it. -/
def it (i : Nat) : Nat := min i (total s - 1)
/-- The group of item `i`. -/
def grp (i : Nat) : Nat := Nat.count (fun g => ba s g + nt s g ≤ it s i) 9
/-- The row tile of item `i`. -/
def tile (i : Nat) : Nat := fi s (grp s i) + it s i - ba s (grp s i)
/-- The rows that item `i` writes start here, -/
def lo (i : Nat) : Nat := if i < total s then st s (grp s i) else 0
/-- and end here. -/
def hi (i : Nat) : Nat := if i < total s then en s (grp s i) else 0

theorem en_zero : en s 0 = s 0 := by simp [en]
theorem en_succ (g : Nat) : en s (g + 1) = en s g + s (g + 1) := by simp [en, List.range_succ (n := g + 1)]
theorem st_zero : st s 0 = 0 := by simp [st, en_zero]
theorem st_succ (g : Nat) : st s (g + 1) = en s g := by simp [st, en_succ]
theorem cu_zero : cu s 0 = nt s 0 := by simp [cu]
theorem cu_succ (g : Nat) : cu s (g + 1) = cu s g + nt s (g + 1) := by simp [cu, List.range_succ (n := g + 1)]
theorem ba_zero : ba s 0 = 0 := by simp [ba, cu_zero]
theorem ba_succ (g : Nat) : ba s (g + 1) = cu s g := by simp [ba, cu_succ]

theorem st_add (g : Nat) : st s g + s g = en s g := by
  cases g with
  | zero => simp [st_zero, en_zero]
  | succ g => rw [st_succ, en_succ]

theorem ba_add (g : Nat) : ba s g + nt s g = cu s g := by
  cases g with
  | zero => simp [ba_zero, cu_zero]
  | succ g => rw [ba_succ, cu_succ]

theorem fi_le (g : Nat) : fi s g ≤ (en s g + 255) / 256 := by
  have := st_add s g
  unfold fi; omega

theorem nt_pos {g : Nat} (h : 0 < s g) : 0 < nt s g := by
  have := st_add s g
  unfold nt fi; rw [if_pos h]; omega

theorem en_mono {g h : Nat} (hgh : g ≤ h) : en s g ≤ en s h := by
  induction h, hgh using Nat.le_induction with
  | base => exact le_rfl
  | succ h _ ih => rw [en_succ]; omega

theorem cu_mono {g h : Nat} (hgh : g ≤ h) : cu s g ≤ cu s h := by
  induction h, hgh using Nat.le_induction with
  | base => exact le_rfl
  | succ h _ ih => rw [cu_succ]; omega

/-- Groups that take no item between two groups have no row between them. -/
theorem en_eq_of_cu_eq {g h : Nat} (hgh : g ≤ h) (e : cu s g = cu s h) : en s g = en s h := by
  induction h, hgh using Nat.le_induction with
  | base => rfl
  | succ h hg ih =>
    have h1 := cu_mono s hg
    have h2 := cu_succ s h
    have h3 : ¬ 0 < s (h + 1) := fun hp => by have := nt_pos s hp; omega
    rw [en_succ, ih (by omega)]; omega

theorem en_zero_of_cu_zero {g : Nat} (e : cu s g = 0) : en s g = 0 := by
  have h0 : cu s 0 = 0 := by have := cu_mono s (Nat.zero_le g); omega
  rw [← en_eq_of_cu_eq s (Nat.zero_le g) (by omega), en_zero]
  rw [cu_zero] at h0
  by_contra hp
  have := nt_pos s (Nat.pos_of_ne_zero hp); omega

theorem cu_le (g : Nat) : cu s g ≤ (en s g + 255) / 256 + g := by
  induction g with
  | zero => rw [cu_zero]; unfold nt; split <;> omega
  | succ g ih =>
    have h1 := en_succ s g
    have h2 := st_succ s g
    rw [cu_succ]; unfold nt fi; split <;> omega

/-- Counting a predicate that, once false, stays false. -/
theorem count_spec (P : Nat → Prop) [DecidablePred P] (hP : ∀ g, P (g + 1) → P g) (n : Nat) :
    Nat.count P n ≤ n ∧ (∀ g, g < Nat.count P n → P g) ∧ (Nat.count P n < n → ¬ P (Nat.count P n)) := by
  induction n with
  | zero => simp
  | succ n ih =>
    obtain ⟨h1, h2, h3⟩ := ih
    rw [Nat.count_succ]
    by_cases hp : P n
    · rw [if_pos hp]
      have hall : ∀ g, g ≤ n → P g := fun g hg => by
        induction hg using Nat.decreasingInduction with
        | self => exact hp
        | of_succ k _ ih => exact hP k ih
      have he : Nat.count P n = n := by
        by_contra hne
        exact h3 (lt_of_le_of_ne h1 hne) (hall _ h1)
      rw [he]
      exact ⟨le_rfl, fun g hg => hall g (by omega), fun h => absurd h (lt_irrefl _)⟩
    · rw [if_neg hp]
      refine ⟨by omega, fun g hg => h2 g (by omega), fun _ => ?_⟩
      by_cases he : Nat.count P n < n
      · exact h3 he
      · have : Nat.count P n = n := by omega
        rw [this]; exact hp

section Sum

variable (hs : en s 8 = 4096)

include hs

theorem total_eq : total s = cu s 8 := by rw [total, ba_add]

theorem total_pos : 0 < total s := by
  rw [total_eq s hs]
  by_contra h
  have := en_zero_of_cu_zero s (g := 8) (by omega)
  omega

theorem total_le : total s ≤ 24 := by
  have := cu_le s 8
  rw [total_eq s hs]; omega

/-- The group of an item: the item lies between the group's first item and the next group's. -/
theorem grp_spec (i : Nat) : grp s i ≤ 8 ∧ ba s (grp s i) ≤ it s i ∧ it s i < cu s (grp s i) := by
  have ht := total_pos s hs
  have hte := total_eq s hs
  have hit : it s i < cu s 8 := by unfold it; omega
  obtain ⟨h1, h2, h3⟩ := count_spec (fun g => ba s g + nt s g ≤ it s i)
    (fun g h => by rw [ba_add] at h ⊢; exact le_trans (cu_mono s (Nat.le_succ g)) h) 9
  change grp s i ≤ 9 at h1
  change ∀ g, g < grp s i → _ at h2
  change grp s i < 9 → ¬ (ba s (grp s i) + nt s (grp s i) ≤ it s i) at h3
  have h8 : grp s i ≤ 8 := by
    by_contra h
    have := h2 8 (by omega)
    rw [ba_add] at this; omega
  refine ⟨h8, ?_, ?_⟩
  · rcases hg : grp s i with _ | g
    · rw [ba_zero]; omega
    · rw [ba_succ]
      have := h2 g (by omega)
      rwa [ba_add] at this
  · have := h3 (by omega)
    rw [ba_add] at this; omega

theorem tile_eq (i : Nat) : tile s i = fi s (grp s i) + (it s i - ba s (grp s i)) := by
  have := (grp_spec s hs i).2.1
  unfold tile; omega

theorem size_pos (i : Nat) : 0 < s (grp s i) := by
  obtain ⟨_, h1, h2⟩ := grp_spec s hs i
  have h3 := ba_add s (grp s i)
  by_contra h
  have : nt s (grp s i) = 0 := by unfold nt; rw [if_neg h]
  omega

/-- The group of an item, from the two bounds. -/
theorem grp_unique {i g : Nat} (h1 : ba s g ≤ it s i) (h2 : it s i < cu s g) : grp s i = g := by
  obtain ⟨_, a, b⟩ := grp_spec s hs i
  rcases Nat.lt_trichotomy (grp s i) g with h | h | h
  · obtain ⟨g', rfl⟩ := Nat.exists_eq_add_of_lt h
    rw [ba_succ] at h1
    have := cu_mono s (show grp s i ≤ grp s i + g' by omega)
    omega
  · exact h
  · obtain ⟨g', h'⟩ := Nat.exists_eq_add_of_lt h
    rw [h', ba_succ] at a
    have := cu_mono s (show g ≤ g + g' by omega)
    omega

theorem tile_bounds (i : Nat) : fi s (grp s i) ≤ tile s i ∧ 256 * tile s i < en s (grp s i) ∧ tile s i ≤ 15 := by
  obtain ⟨h8, h1, h2⟩ := grp_spec s hs i
  have h3 := ba_add s (grp s i)
  have h4 := size_pos s hs i
  have h5 := tile_eq s hs i
  have h6 := en_mono s h8
  have h7 := fi_le s (grp s i)
  have hn : nt s (grp s i) = (en s (grp s i) + 255) / 256 - fi s (grp s i) := by unfold nt; rw [if_pos h4]
  refine ⟨by omega, by omega, by omega⟩

theorem first_item : st s (grp s 0) = 0 ∧ tile s 0 = 0 := by
  obtain ⟨h8, h1, h2⟩ := grp_spec s hs 0
  have hit : it s 0 = 0 := by unfold it; omega
  have hst : st s (grp s 0) = 0 := by
    rcases hg : grp s 0 with _ | g
    · exact st_zero s
    · rw [hg, ba_succ] at h1
      rw [st_succ]; exact en_zero_of_cu_zero s (by omega)
  refine ⟨hst, ?_⟩
  rw [tile_eq s hs, fi, hst, hit]; simp

theorem last_item (i : Nat) (hi : total s - 1 ≤ i) : en s (grp s i) = 4096 ∧ tile s i = 15 := by
  obtain ⟨h8, h1, h2⟩ := grp_spec s hs i
  have ht := total_pos s hs
  have hte := total_eq s hs
  have hit : it s i = total s - 1 := by unfold it; omega
  have hm := cu_mono s h8
  have he := en_eq_of_cu_eq s h8 (by omega)
  refine ⟨by omega, ?_⟩
  have h4 := size_pos s hs i
  have h3 := ba_add s (grp s i)
  have h5 := tile_eq s hs i
  have h7 := fi_le s (grp s i)
  have hn : nt s (grp s i) = (en s (grp s i) + 255) / 256 - fi s (grp s i) := by unfold nt; rw [if_pos h4]
  omega

/-- Two neighbouring items in use: the next tile of the same group, or the first tile of the next group that has rows. -/
theorem next_item (i : Nat) (hi : i + 1 < total s) :
    (grp s (i + 1) = grp s i ∧ tile s (i + 1) = tile s i + 1)
      ∨ (st s (grp s (i + 1)) = en s (grp s i) ∧ tile s i + 1 = (en s (grp s i) + 255) / 256
          ∧ tile s (i + 1) = en s (grp s i) / 256) := by
  obtain ⟨h8, h1, h2⟩ := grp_spec s hs i
  obtain ⟨k8, k1, k2⟩ := grp_spec s hs (i + 1)
  have hit : it s i = i := by unfold it; omega
  have hit' : it s (i + 1) = i + 1 := by unfold it; omega
  have h5 := tile_eq s hs i
  have k5 := tile_eq s hs (i + 1)
  by_cases hc : i + 1 < cu s (grp s i)
  · left
    have hg := grp_unique s hs (i := i + 1) (g := grp s i) (by omega) (by omega)
    refine ⟨hg, ?_⟩
    rw [hg] at k5; omega
  · right
    have hcu : cu s (grp s i) = i + 1 := by omega
    have hlt : grp s i < grp s (i + 1) := by
      by_contra h
      have := cu_mono s (show grp s (i + 1) ≤ grp s i by omega)
      omega
    obtain ⟨g, hg⟩ := Nat.exists_eq_add_of_lt hlt
    have hb : ba s (grp s (i + 1)) = cu s (grp s i + g) := by rw [hg, ba_succ]
    have hm := cu_mono s (show grp s i ≤ grp s i + g by omega)
    have he := en_eq_of_cu_eq s (show grp s i ≤ grp s i + g by omega) (by omega)
    have hst : st s (grp s (i + 1)) = en s (grp s i) := by rw [hg, st_succ, he]
    refine ⟨hst, ?_, ?_⟩
    · have h4 := size_pos s hs i
      have h3 := ba_add s (grp s i)
      have h7 := fi_le s (grp s i)
      have hn : nt s (grp s i) = (en s (grp s i) + 255) / 256 - fi s (grp s i) := by unfold nt; rw [if_pos h4]
      omega
    · have : fi s (grp s (i + 1)) = en s (grp s i) / 256 := by rw [fi, hst]
      omega

/-- Past the items in use an item repeats the one before it. -/
theorem idle_item (i : Nat) (hi : total s ≤ i + 1) : grp s (i + 1) = grp s i ∧ tile s (i + 1) = tile s i := by
  have hit : it s (i + 1) = it s i := by unfold it; omega
  have hg : grp s (i + 1) = grp s i := by unfold grp; rw [hit]
  exact ⟨hg, by unfold tile; rw [hg, hit]⟩

/-- The tile of the next item is the same or the next. -/
theorem tile_step (i : Nat) : tile s (i + 1) = tile s i ∨ tile s (i + 1) = tile s i + 1 := by
  by_cases hi : i + 1 < total s
  · rcases next_item s hs i hi with ⟨_, h⟩ | ⟨_, h1, h2⟩ <;> omega
  · exact .inl (idle_item s hs i (by omega)).2

/-- A row of item `i`'s tile that lies before the item's group was covered by the item before, in the same tile. -/
theorem before_item (i r : Nat) (hi : i < total s) (hr : 256 * tile s i ≤ r) (hlt : r < st s (grp s i)) :
    ∃ j, i = j + 1 ∧ tile s j = tile s i ∧ r < en s (grp s j) := by
  cases i with
  | zero => have := (first_item s hs).1; omega
  | succ j =>
    refine ⟨j, rfl, ?_⟩
    rcases next_item s hs j hi with ⟨hg, ht⟩ | ⟨h0, h1, h2⟩
    · have h3 := (tile_bounds s hs j).1
      rw [hg] at hlt
      unfold fi at h3
      omega
    · refine ⟨by omega, by omega⟩

/-- When the next item takes another tile, the item's group ends at or past the end of its own tile. -/
theorem full_of_step (i : Nat) (h : tile s (i + 1) ≠ tile s i) : 256 * (tile s i + 1) ≤ en s (grp s i) := by
  have hi : i + 1 < total s := by
    by_contra hc
    exact h (idle_item s hs i (by omega)).2
  rcases next_item s hs i hi with ⟨hg, ht⟩ | ⟨h0, h1, h2⟩
  · have := (tile_bounds s hs (i + 1)).2.1
    rw [hg, ht] at this; omega
  · omega

theorem full_of_last : 256 * (tile s 23 + 1) ≤ en s (grp s 23) := by
  have := total_le s hs
  obtain ⟨h1, h2⟩ := last_item s hs 23 (by omega)
  omega

/-- Every row tile is the tile of an item whose successor takes another tile, or of the last item. -/
theorem tile_cover (T : Nat) (hT : T ≤ 15) : ∃ i, i < 24 ∧ tile s i = T ∧ (i = 23 ∨ tile s (i + 1) ≠ tile s i) := by
  have h0 := (first_item s hs).2
  have hl : tile s 23 = 15 := (last_item s hs 23 (by have := total_le s hs; omega)).2
  have hex : ∀ n, n ≤ 23 → (T < tile s n → ∃ i, i < n ∧ tile s i = T ∧ tile s (i + 1) ≠ tile s i) := by
    intro n
    induction n with
    | zero => intro _ h; omega
    | succ n ih =>
      intro hn h
      by_cases hc : T < tile s n
      · obtain ⟨i, a, b⟩ := ih (by omega) hc
        exact ⟨i, by omega, b⟩
      · have := tile_step s hs n
        exact ⟨n, by omega, by omega, by omega⟩
  by_cases hc : T < tile s 23
  · obtain ⟨i, a, b, c⟩ := hex 23 le_rfl hc
    exact ⟨i, by omega, b, .inr c⟩
  · exact ⟨23, by omega, by omega, .inl rfl⟩

end Sum

end Cert.WorkList
-- ==== Proof.Plan.lean ====
/-
  THE WORK LIST AS THE HOST COMPUTES IT. The program builds four tables of 24 entries out of the nine group sizes before it launches the
  grouped product: the expert of each item, its row tile, and the first and past-the-last row the item owns. Here that computation is
  written once as a function of the group sizes, operation for operation as the program prints it, and each entry of each table is read
  as the natural number `Cert.WorkList` gives.
-/
module

public import Idealize.ShloMosaic.Lib.Routing.OpsSet
public import Idealize.ShloMosaic.Lib.Routing.OpsPair
public import Idealize.ShloMosaic.Lib.Routing.Words
public import proofs.«01_k».proof.Proof.WorkList

@[expose] public section

namespace Cert.Plan

open Idealize.ShloMosaic Idealize.ShloMosaic.WordCmp Idealize.ShloMosaic.Routing Idealize.ShloMosaic.ValueIdx

/-- What the printed operations ask of the shapes. -/
structure Sides where
  h0 : 0 < shape0.numel
  b00 : shape0.BroadcastsInDim shape0 (![] : Fin 0 → Fin shape0.rank)
  win9 : (shape1 9).ReduceWindows (![9] : Fin 1 → Nat) ![1] ![8] ![0] (shape1 9)
  b9 : shape0.BroadcastsInDim (shape1 9) (![] : Fin 0 → Fin (shape1 9).rank)
  last : (shape1 9).Slices ![8] (shape1 1)
  drop : (shape1 1).ShapeCasts shape0
  b24 : shape0.BroadcastsInDim (shape1 24) (![] : Fin 0 → Fin (shape1 24).rank)
  col : (shape1 24).BroadcastsInDim (shape2 24 1) (![0] : Fin 1 → Fin (shape2 24 1).rank)
  row : (shape1 9).BroadcastsInDim (shape2 1 9) (![1] : Fin 1 → Fin (shape2 1 9).rank)
  cols : (shape2 24 1).BroadcastsInDim (shape2 24 9) (![0, 1] : Fin 2 → Fin (shape2 24 9).rank)
  rows : (shape2 1 9).BroadcastsInDim (shape2 24 9) (![0, 1] : Fin 2 → Fin (shape2 24 9).rank)
  lt32 : 1 < 32
  red : (shape2 24 9).ReducesTo [1] (shape1 24)
  take : GatherDims (shape1 9) (shape2 24 1) (shape1 24)
  tcoll : take.collapsedSliceDims = [0]
  tob : take.operandBatchingDims = []
  tsim : take.startIndexMap = [0]
  tivd : take.indexVectorDim = 1

variable (S : Sides)

/-- A constant in every entry of a nine-entry table. -/
noncomputable def k9 (c : BitVec 32) : IVec (shape1 9) 32 := broadcastInDim (shape1 9) ![] S.b9 (constantI shape0 32 c)
/-- A constant in every entry of a 24-entry table. -/
noncomputable def k24 (c : BitVec 32) : IVec (shape1 24) 32 := broadcastInDim (shape1 24) ![] S.b24 (constantI shape0 32 c)
/-- The running sum of nine words. -/
noncomputable def csum (x : IVec (shape1 9) 32) : IVec (shape1 9) 32 :=
  Host.reduceWindow IntOp.addi ![9] ![1] ![8] ![0] x (broadcastInDim shape0 ![] S.b00 (constantI shape0 32 0#32)) S.win9 S.h0

variable (g : IVec (shape1 9) 32)

/-- Where each group ends. -/
noncomputable def vEnd : IVec (shape1 9) 32 := csum S g
/-- Where each group starts. -/
noncomputable def vStart : IVec (shape1 9) 32 := subi (vEnd S g) g
/-- The tile that holds each group's first row. -/
noncomputable def vFirst : IVec (shape1 9) 32 := pyDiv S.b9 (vStart S g) (constantI shape0 32 256#32)
/-- How many tiles each group touches. -/
noncomputable def vTiles : IVec (shape1 9) 32 :=
  select (cmpi .sgt g (k9 S 0#32))
    (subi (pyDiv S.b9 (subi (addi (vEnd S g) (k9 S 256#32)) (k9 S 1#32)) (constantI shape0 32 256#32)) (vFirst S g)) (k9 S 0#32)
/-- How many items come before each group's. -/
noncomputable def vBase : IVec (shape1 9) 32 := subi (csum S (vTiles S g)) (vTiles S g)
/-- How many items there are. -/
noncomputable def vTotal : IVec shape0 32 :=
  addi (shapeCast shape0 (extractStridedSlice (shape1 1) ![8] (vBase S g) S.last) S.drop)
    (shapeCast shape0 (extractStridedSlice (shape1 1) ![8] (vTiles S g) S.last) S.drop)
/-- Which of the 24 entries are items. -/
noncomputable def vLive : IVec (shape1 24) 1 := cmpi .slt (iotaInDim (shape1 24) 32 0) (broadcastInDim (shape1 24) ![] S.b24 (vTotal S g))
/-- The item of each entry: its own number, or the last item's past the end. -/
noncomputable def vItem : IVec (shape1 24) 32 :=
  minsi (iotaInDim (shape1 24) 32 0) (broadcastInDim (shape1 24) ![] S.b24 (subi (vTotal S g) (constantI shape0 32 1#32)))
/-- The expert of each entry. -/
noncomputable def vGrp : IVec (shape1 24) 32 :=
  Host.reduce IntOp.addi
    (extui 32 (cmpi .sge (broadcastInDim (shape2 24 9) ![0, 1] S.cols (broadcastInDim (shape2 24 1) ![0] S.col (vItem S g)))
      (broadcastInDim (shape2 24 9) ![0, 1] S.rows (broadcastInDim (shape2 1 9) ![1] S.row (addi (vBase S g) (vTiles S g))))) S.lt32)
    (constantI shape0 32 0#32) S.red S.h0
/-- A nine-entry table read at each entry's expert. -/
noncomputable def at_ (x : IVec (shape1 9) 32) : IVec (shape1 24) 32 :=
  Host.gather S.take x (broadcastInDim (shape2 24 1) ![0] S.col
    (select (cmpi .slt (vGrp S g) (k24 S 0#32)) (addi (vGrp S g) (k24 S 9#32)) (vGrp S g)))
/-- The row tile of each entry. -/
noncomputable def vTile : IVec (shape1 24) 32 := subi (addi (at_ S g (vFirst S g)) (vItem S g)) (at_ S g (vBase S g))
/-- The first row each entry owns. -/
noncomputable def vLo : IVec (shape1 24) 32 := select (vLive S g) (at_ S g (vStart S g)) (k24 S 0#32)
/-- The row past the last one each entry owns. -/
noncomputable def vHi : IVec (shape1 24) 32 := select (vLive S g) (at_ S g (vEnd S g)) (k24 S 0#32)

/-! ## Their values -/

variable {S} {g} {s : Nat → Nat}

/-- A running sum that starts from zero. -/
theorem csum_at (x : IVec (shape1 9) 32) (f : Nat → Nat) (hx : ∀ i : Fin 9, x (ix1 i) = BitVec.ofNat 32 (f i.val)) (j : Fin 9) :
    csum S x (ix1 j) = BitVec.ofNat 32 ((List.range (j.val + 1)).map f).sum :=
  cumsum1 (by decide) x f hx _ (by rw [bc0]; rfl) _ _ j

section
variable (hg : ∀ i : Fin 9, g (ix1 i) = BitVec.ofNat 32 (s i.val)) (hs : WorkList.en s 8 = 4096)
include hg

theorem vEnd_at (j : Fin 9) : vEnd S g (ix1 j) = BitVec.ofNat 32 (WorkList.en s j.val) := csum_at g s hg j

theorem vStart_at (j : Fin 9) : vStart S g (ix1 j) = BitVec.ofNat 32 (WorkList.st s j.val) := by
  unfold vStart
  rw [subi_ap, vEnd_at hg, hg, ofNat32_sub (by have := WorkList.st_add s j.val; omega)]
  rfl

include hs

theorem en_le (j : Fin 9) : WorkList.en s j.val ≤ 4096 := by
  rw [← hs]; exact WorkList.en_mono s (by omega)

theorem st_le (j : Fin 9) : WorkList.st s j.val ≤ 4096 := by
  have := en_le hg hs j; have := WorkList.st_add s j.val; omega

theorem vFirst_at (j : Fin 9) : vFirst S g (ix1 j) = BitVec.ofNat 32 (WorkList.fi s j.val) := by
  have := st_le hg hs j
  exact pyDiv_ap _ _ _ _ (vStart_at hg j) rfl (by omega) (by omega) (by omega)

theorem vTiles_at (j : Fin 9) : vTiles S g (ix1 j) = BitVec.ofNat 32 (WorkList.nt s j.val) := by
  have h1 := en_le hg hs j
  have h2 := WorkList.st_add s j.val
  have h4 : pyDiv S.b9 (subi (addi (vEnd S g) (k9 S 256#32)) (k9 S 1#32)) (constantI shape0 32 256#32) (ix1 j)
      = BitVec.ofNat 32 ((WorkList.en s j.val + 256 - 1) / 256) := by
    refine pyDiv_ap _ _ _ _ (a := WorkList.en s j.val + 256 - 1) ?_ rfl (by omega) (by omega) (by omega)
    rw [subi_ap, addi_ap, vEnd_at hg, k9, k9, bc0, bc0, constantI_at, constantI_at, ← BitVec.ofNat_add, ofNat32_sub (by omega)]
  unfold vTiles
  rw [select_at, cmpi_at, hg, k9, bc0, constantI_at, subi_ap, h4, vFirst_at hg hs, WordCmp.cmpi_sgt_ofNat (by omega) (by omega),
    WordCmp.select_decide, ofNat32_sub (by have := WorkList.fi_le s j.val; unfold WorkList.fi; omega)]
  unfold WorkList.nt
  split <;> first | rfl | omega

theorem vBase_at (j : Fin 9) : vBase S g (ix1 j) = BitVec.ofNat 32 (WorkList.ba s j.val) := by
  unfold vBase
  rw [subi_ap, csum_at _ _ (vTiles_at hg hs), vTiles_at hg hs]
  have := WorkList.ba_add s j.val
  unfold WorkList.cu at this
  rw [ofNat32_sub (by omega)]
  rfl

theorem vTotal_at : vTotal S g ix0 = BitVec.ofNat 32 (WorkList.total s) := by
  have hc : ∀ x : IVec (shape1 1) 32, shapeCast shape0 x S.drop ix0 = x (ix1 0) := fun x =>
    shapeCast_apply x S.drop ix0 (ix1 0) (by
      have h1 := ((shape1 1).rowMajor (ix1 (0 : Fin 1))).isLt
      have h2 := (shape0.rowMajor ix0).isLt
      have e1 : (shape1 1).numel = 1 := rfl
      have e2 : shape0.numel = 1 := rfl
      omega)
  unfold vTotal
  rw [addi_ap, hc, hc, slice1 8 _ _ (0 : Fin 1) (by decide), slice1 8 _ _ (0 : Fin 1) (by decide)]
  exact (congrArg₂ (· + ·) (vBase_at hg hs (8 : Fin 9)) (vTiles_at hg hs (8 : Fin 9))).trans (BitVec.ofNat_add _ _).symm

theorem vLive_at (i : Fin 24) : vLive S g (ix1 i) = BitVec.ofBool (decide (i.val < WorkList.total s)) := by
  have := WorkList.total_le s hs
  unfold vLive
  rw [cmpi_at, iota1_ap, bc0, vTotal_at hg hs, WordCmp.cmpi_slt_ofNat (by omega) (by omega)]

theorem vItem_at (i : Fin 24) : vItem S g (ix1 i) = BitVec.ofNat 32 (WorkList.it s i.val) := by
  have := WorkList.total_le s hs
  have h0 := WorkList.total_pos s hs
  unfold vItem
  rw [show minsi (iotaInDim (shape1 24) 32 0) (broadcastInDim (shape1 24) ![] S.b24 (subi (vTotal S g) (constantI shape0 32 1#32))) (ix1 i) = IntOp.minsi _ _ from rfl, iota1_ap, bc0, subi_ap, vTotal_at hg hs, constantI_at, show (1#32 : BitVec 32) = BitVec.ofNat 32 1 from rfl,
    ofNat32_sub h0]
  unfold IntOp.minsi WorkList.it
  rw [slt_ofNat32 (by omega) (by omega)]
  by_cases h : i.val < WorkList.total s - 1
  · simp only [h, decide_true, if_true]; rw [Nat.min_eq_left (by omega)]
  · simp only [h, decide_false]; rw [Nat.min_eq_right (by omega)]; simp

theorem vGrp_at (i : Fin 24) : vGrp S g (ix1 i) = BitVec.ofNat 32 (WorkList.grp s i.val) := by
  have h24 := WorkList.total_le s hs
  have hpos := WorkList.total_pos s hs
  refine reduce_count (by decide) _ _ _ _ _ _ fun q => ?_
  have hcu : WorkList.ba s q.val + WorkList.nt s q.val ≤ 24 := by
    have h1 := WorkList.ba_add s q.val
    have h2 := WorkList.ba_add s 8
    have h3 := WorkList.cu_mono s (show q.val ≤ 8 by omega)
    unfold WorkList.total at h24
    omega
  have hit : WorkList.it s i.val ≤ 24 := by unfold WorkList.it; omega
  rw [cmpi_at, bcRows, bcCols, vItem_at hg hs, addi_ap, vBase_at hg hs, vTiles_at hg hs, ← BitVec.ofNat_add,
    WordCmp.cmpi_sge_ofNat (by omega) (by omega), WordCmp.ofBool_decide_eq_one_iff]

theorem at_at (x : IVec (shape1 9) 32) (f : Nat → Nat) (hx : ∀ j : Fin 9, x (ix1 j) = BitVec.ofNat 32 (f j.val)) (i : Fin 24) :
    at_ S g x (ix1 i) = BitVec.ofNat 32 (f (WorkList.grp s i.val)) := by
  have h8 := (WorkList.grp_spec s hs i.val).1
  refine (gather_take1 S.take S.tcoll S.tob S.tsim S.tivd x _ i ⟨WorkList.grp s i.val, by omega⟩ ?_ (by decide)).trans (hx _)
  rw [bcCol, select_at, cmpi_at, k24, bc0, constantI_at, vGrp_at hg hs, addi_ap, wrap_of_lt]
  rw [BitVec.toNat_ofNat, Nat.mod_eq_of_lt (by omega)]
  omega

theorem vTile_at (i : Fin 24) : vTile S g (ix1 i) = BitVec.ofNat 32 (WorkList.tile s i.val) := by
  have h := WorkList.grp_spec s hs i.val
  unfold vTile
  rw [subi_ap, addi_ap, at_at hg hs _ _ (vFirst_at hg hs), at_at hg hs _ _ (vBase_at hg hs), vItem_at hg hs, ← BitVec.ofNat_add,
    ofNat32_sub (by omega)]
  rfl

theorem vLo_at (i : Fin 24) : vLo S g (ix1 i) = BitVec.ofNat 32 (WorkList.lo s i.val) := by
  unfold vLo WorkList.lo
  rw [select_at, vLive_at hg hs, at_at hg hs _ _ (vStart_at hg), k24, bc0, constantI_at, WordCmp.select_decide]
  split <;> rfl

theorem vHi_at (i : Fin 24) : vHi S g (ix1 i) = BitVec.ofNat 32 (WorkList.hi s i.val) := by
  unfold vHi WorkList.hi
  rw [select_at, vLive_at hg hs, at_at hg hs _ _ (vEnd_at hg), k24, bc0, constantI_at, WordCmp.select_decide]
  split <;> rfl

end

end Cert.Plan
-- ==== Proof.Kernel.Tables.lean ====
/- The four tables that the program computes from the group sizes, as `Cert.Plan` states them. -/
module

public import proofs.«01_k».proof.Proof.Kernel.Runs
public import proofs.«01_k».proof.Proof.Plan
public import Idealize.ShloMosaic.Lib.StableHlo.RunRead
public import Idealize.ShloMosaic.Lib.Pipeline.Frame

@[expose] public section

set_option maxRecDepth 16384

noncomputable section

namespace Cert.Kernel.Run

open Cert.Kernel.Gen Idealize.ShloMosaic Idealize.ShloMosaic.TcCoe Idealize.ShloMosaic.ValueIdx

variable {F : FTy → Type} [FloatOps F]
variable (m : (ℓ : Loc nD τ sig) → Buf (Elt F) ℓ)

/-- The side conditions of the printed operations. -/
def sides : Cert.Plan.Sides where
  h0 := Facts₀.h_S_
  b00 := Facts₀.bcast_S_S_
  win9 := Facts₀.reduceWindows_S9_S9_w9s1p8_0
  b9 := Facts₀.bcast_S_S9
  last := Facts₀.slices_S9_S1_8
  drop := Facts₀.shapeCasts_S1_S_
  b24 := Facts₀.bcast_S_S24
  col := Facts₀.bcast_S24_S24x1_0
  row := Facts₀.bcast_S9_S1x9_1
  cols := Facts₀.bcast_S24x1_S24x9_0_1
  rows := Facts₀.bcast_S1x9_S24x9_0_1
  lt32 := Facts₀.natLt_1_32
  red := Facts₀.reducesTo_S24x9_S24_d1
  take := gather_S9_S24x1_S24_n_0_n_n_0_1_1
  tcoll := rfl
  tob := rfl
  tsim := rfl
  tivd := rfl

/-- The buffers after the first eight stretches of host operations: everything up to the second running sum. -/
def V7 (c : Dev nD) : Valuation τ sig (Elt F) :=
  StableHlo.after (List.flatten [hostOps0, hostOps0_1, hostOps0_2, hostOps0_3, hostOps0_4, hostOps0_5, hostOps0_6, hostOps0_7]) (fun b => m (c, b))

/-- The buffers the region finds are those after the last four stretches. -/
theorem V_eq (c : Dev nD) (b : Ref sig .tc) : V m c b
    = StableHlo.after hostOps0_11 (StableHlo.after hostOps0_10 (StableHlo.after hostOps0_9 (StableHlo.after hostOps0_8 (V7 m c)))) (Proc.devRef .tc b) := by
  unfold V V7
  simp only [List.flatten_cons, List.flatten_nil, List.append_nil, StableHlo.after_append]

set_option maxHeartbeats 4000000 in
theorem V7_v0 (c : Dev nD) : V7 m c (Proc.devRef .tc main_v0) = Cert.Plan.vEnd sides (m ((c : Thread nD τ).loc main_arg1)) := by
  unfold V7
  after_reads_simp
  simp -implicitDefEqProofs only [StableHlo.TRef.toBuf, StableHlo.TRef.ofBuf, cast_cast, cast_eq, id]
  unfold Cert.Plan.vEnd Cert.Plan.csum
  with_reducible rfl

set_option maxHeartbeats 4000000 in
theorem V7_v1 (c : Dev nD) : V7 m c (Proc.devRef .tc main_v1) = Cert.Plan.vStart sides (m ((c : Thread nD τ).loc main_arg1)) := by
  unfold V7
  after_reads_simp
  simp -implicitDefEqProofs only [StableHlo.TRef.toBuf, StableHlo.TRef.ofBuf, cast_cast, cast_eq, id]
  unfold Cert.Plan.vStart Cert.Plan.vEnd Cert.Plan.csum
  with_reducible rfl

set_option maxHeartbeats 4000000 in
theorem V7_v2 (c : Dev nD) : V7 m c (Proc.devRef .tc main_v2) = Cert.Plan.vFirst sides (m ((c : Thread nD τ).loc main_arg1)) := by
  unfold V7
  after_reads_simp
  simp -implicitDefEqProofs only [StableHlo.TRef.toBuf, StableHlo.TRef.ofBuf, cast_cast, cast_eq, id]
  unfold Cert.Plan.vFirst Cert.Plan.vStart Cert.Plan.vEnd Cert.Plan.csum Idealize.ShloMosaic.Routing.pyDiv
  with_reducible rfl

set_option maxHeartbeats 4000000 in
theorem V7_v11 (c : Dev nD) : V7 m c (Proc.devRef .tc main_v11) = Cert.Plan.vTiles sides (m ((c : Thread nD τ).loc main_arg1)) := by
  unfold V7
  after_reads_simp
  simp -implicitDefEqProofs only [StableHlo.TRef.toBuf, StableHlo.TRef.ofBuf, cast_cast, cast_eq, id]
  unfold Cert.Plan.vTiles Cert.Plan.vFirst Cert.Plan.vStart Cert.Plan.vEnd Cert.Plan.csum Cert.Plan.k9 Idealize.ShloMosaic.Routing.pyDiv
  with_reducible rfl

set_option maxHeartbeats 4000000 in
theorem V7_v12 (c : Dev nD) : V7 m c (Proc.devRef .tc main_v12) = Cert.Plan.csum sides (Cert.Plan.vTiles sides (m ((c : Thread nD τ).loc main_arg1))) := by
  unfold V7
  after_reads_simp
  simp -implicitDefEqProofs only [StableHlo.TRef.toBuf, StableHlo.TRef.ofBuf, cast_cast, cast_eq, id]
  unfold Cert.Plan.vTiles Cert.Plan.vFirst Cert.Plan.vStart Cert.Plan.vEnd Cert.Plan.csum Cert.Plan.k9 Idealize.ShloMosaic.Routing.pyDiv
  with_reducible rfl

section
variable {W : Valuation τ sig (Elt F)} {g : IVec S9 32}

set_option maxHeartbeats 4000000 in
theorem p8_v32 (h11 : W (Proc.devRef .tc main_v11) = Cert.Plan.vTiles sides g) (h12 : W (Proc.devRef .tc main_v12) = Cert.Plan.csum sides (W (Proc.devRef .tc main_v11))) :
    StableHlo.after hostOps0_8 W (Proc.devRef .tc main_v32) = Cert.Plan.vGrp sides g := by
  simp only [Cert.Plan.vGrp, Cert.Plan.vItem, Cert.Plan.vTotal, Cert.Plan.vBase, ← h11, ← h12]
  after_reads_simp
  rfl

set_option maxHeartbeats 4000000 in
theorem p8_v21 (h11 : W (Proc.devRef .tc main_v11) = Cert.Plan.vTiles sides g) (h12 : W (Proc.devRef .tc main_v12) = Cert.Plan.csum sides (W (Proc.devRef .tc main_v11))) :
    StableHlo.after hostOps0_8 W (Proc.devRef .tc main_v21) = Cert.Plan.vLive sides g := by
  simp only [Cert.Plan.vLive, Cert.Plan.vTotal, Cert.Plan.vBase, ← h11, ← h12]
  after_reads_simp
  rfl

set_option maxHeartbeats 4000000 in
theorem p8_v48 (h11 : W (Proc.devRef .tc main_v11) = Cert.Plan.vTiles sides g) (h12 : W (Proc.devRef .tc main_v12) = Cert.Plan.csum sides (W (Proc.devRef .tc main_v11))) (h2 : W (Proc.devRef .tc main_v2) = Cert.Plan.vFirst sides g) :
    StableHlo.after hostOps0_8 W (Proc.devRef .tc main_v48) = Cert.Plan.vTile sides g := by
  simp only [Cert.Plan.vTile, Cert.Plan.at_, Cert.Plan.k24, Cert.Plan.vGrp, Cert.Plan.vItem, Cert.Plan.vTotal, Cert.Plan.vBase, ← h11, ← h12, ← h2]
  after_reads_simp
  rfl

set_option maxHeartbeats 4000000 in
theorem p8_v55 (h11 : W (Proc.devRef .tc main_v11) = Cert.Plan.vTiles sides g) (h12 : W (Proc.devRef .tc main_v12) = Cert.Plan.csum sides (W (Proc.devRef .tc main_v11))) (h1 : W (Proc.devRef .tc main_v1) = Cert.Plan.vStart sides g) :
    StableHlo.after hostOps0_8 W (Proc.devRef .tc main_v55) = Cert.Plan.at_ sides g (Cert.Plan.vStart sides g) := by
  simp only [Cert.Plan.at_, Cert.Plan.k24, Cert.Plan.vGrp, Cert.Plan.vItem, Cert.Plan.vTotal, Cert.Plan.vBase, ← h11, ← h12, ← h1]
  after_reads_simp
  rfl

theorem p8_v0 : StableHlo.after hostOps0_8 W (Proc.devRef .tc main_v0) = W (Proc.devRef .tc main_v0) := by
  after_reads_simp

theorem p8_c13 : StableHlo.after hostOps0_8 W (Proc.devRef .tc main_c_13) = constantI S_ 32 0#32 := by
  after_reads_simp

theorem p9_v56 (h21 : W (Proc.devRef .tc main_v21) = Cert.Plan.vLive sides g) (h55 : W (Proc.devRef .tc main_v55) = Cert.Plan.at_ sides g (Cert.Plan.vStart sides g))
    (hc : W (Proc.devRef .tc main_c_13) = constantI S_ 32 0#32) :
    StableHlo.after hostOps0_9 W (Proc.devRef .tc main_v56) = Cert.Plan.vLo sides g := by
  simp only [Cert.Plan.vLo, Cert.Plan.k24, ← h21, ← h55]
  rw [show constantI Routing.shape0 32 0#32 = W (Proc.devRef .tc main_c_13) from hc.symm]
  after_reads_simp
  simp -implicitDefEqProofs only [StableHlo.TRef.toBuf, StableHlo.TRef.ofBuf, cast_cast, cast_eq, id]
  try rfl

set_option maxHeartbeats 4000000 in
theorem p10_v63 (h32 : W (Proc.devRef .tc main_v32) = Cert.Plan.vGrp sides g) (h0 : W (Proc.devRef .tc main_v0) = Cert.Plan.vEnd sides g) :
    StableHlo.after hostOps0_10 W (Proc.devRef .tc main_v63) = Cert.Plan.at_ sides g (Cert.Plan.vEnd sides g) := by
  simp only [Cert.Plan.at_, Cert.Plan.k24, ← h32, ← h0]
  after_reads_simp
  rfl

theorem p10_c16 : StableHlo.after hostOps0_10 W (Proc.devRef .tc main_c_16) = constantI S_ 32 0#32 := by
  after_reads_simp

theorem p11_v64 (h21 : W (Proc.devRef .tc main_v21) = Cert.Plan.vLive sides g) (h63 : W (Proc.devRef .tc main_v63) = Cert.Plan.at_ sides g (Cert.Plan.vEnd sides g))
    (hc : W (Proc.devRef .tc main_c_16) = constantI S_ 32 0#32) :
    StableHlo.after hostOps0_11 W (Proc.devRef .tc main_v64) = Cert.Plan.vHi sides g := by
  simp only [Cert.Plan.vHi, Cert.Plan.k24, ← h21, ← h63]
  rw [show constantI Routing.shape0 32 0#32 = W (Proc.devRef .tc main_c_16) from hc.symm]
  after_reads_simp
  simp -implicitDefEqProofs only [StableHlo.TRef.toBuf, StableHlo.TRef.ofBuf, cast_cast, cast_eq, id]
  try rfl

theorem p9_keep_v0 : StableHlo.after hostOps0_9 W (Proc.devRef .tc main_v0) = W (Proc.devRef .tc main_v0) := by
  after_reads_simp

theorem p9_keep_v21 : StableHlo.after hostOps0_9 W (Proc.devRef .tc main_v21) = W (Proc.devRef .tc main_v21) := by
  after_reads_simp

theorem p9_keep_v32 : StableHlo.after hostOps0_9 W (Proc.devRef .tc main_v32) = W (Proc.devRef .tc main_v32) := by
  after_reads_simp

theorem p9_keep_v48 : StableHlo.after hostOps0_9 W (Proc.devRef .tc main_v48) = W (Proc.devRef .tc main_v48) := by
  after_reads_simp

theorem p10_keep_v21 : StableHlo.after hostOps0_10 W (Proc.devRef .tc main_v21) = W (Proc.devRef .tc main_v21) := by
  after_reads_simp

theorem p10_keep_v32 : StableHlo.after hostOps0_10 W (Proc.devRef .tc main_v32) = W (Proc.devRef .tc main_v32) := by
  after_reads_simp

theorem p10_keep_v48 : StableHlo.after hostOps0_10 W (Proc.devRef .tc main_v48) = W (Proc.devRef .tc main_v48) := by
  after_reads_simp

theorem p10_keep_v56 : StableHlo.after hostOps0_10 W (Proc.devRef .tc main_v56) = W (Proc.devRef .tc main_v56) := by
  after_reads_simp

theorem p11_keep_v32 : StableHlo.after hostOps0_11 W (Proc.devRef .tc main_v32) = W (Proc.devRef .tc main_v32) := by
  after_reads_simp

theorem p11_keep_v48 : StableHlo.after hostOps0_11 W (Proc.devRef .tc main_v48) = W (Proc.devRef .tc main_v48) := by
  after_reads_simp

theorem p11_keep_v56 : StableHlo.after hostOps0_11 W (Proc.devRef .tc main_v56) = W (Proc.devRef .tc main_v56) := by
  after_reads_simp

end

variable (c : Dev nD)

/-- The table of each item's expert, as a function of the group sizes. -/
theorem V_grp : V m c main_v32 = Cert.Plan.vGrp sides (m ((c : Thread nD τ).loc main_arg1)) := by
  rw [V_eq, p11_keep_v32, p10_keep_v32, p9_keep_v32]
  exact p8_v32 (V7_v11 m c) ((V7_v12 m c).trans (by rw [V7_v11]))

/-- The table of each item's row tile. -/
theorem V_tile : V m c main_v48 = Cert.Plan.vTile sides (m ((c : Thread nD τ).loc main_arg1)) := by
  rw [V_eq, p11_keep_v48, p10_keep_v48, p9_keep_v48]
  exact p8_v48 (V7_v11 m c) ((V7_v12 m c).trans (by rw [V7_v11])) (V7_v2 m c)

/-- The table of each item's first row. -/
theorem V_lo : V m c main_v56 = Cert.Plan.vLo sides (m ((c : Thread nD τ).loc main_arg1)) := by
  rw [V_eq, p11_keep_v56, p10_keep_v56]
  exact p9_v56 (p8_v21 (V7_v11 m c) ((V7_v12 m c).trans (by rw [V7_v11]))) (p8_v55 (V7_v11 m c) ((V7_v12 m c).trans (by rw [V7_v11])) (V7_v1 m c)) p8_c13

/-- The table of the row past each item's last. -/
theorem V_hi : V m c main_v64 = Cert.Plan.vHi sides (m ((c : Thread nD τ).loc main_arg1)) := by
  rw [V_eq]
  refine p11_v64 ?_ (p10_v63 ?_ ?_) p10_c16
  · rw [p10_keep_v21, p9_keep_v21]; exact p8_v21 (V7_v11 m c) ((V7_v12 m c).trans (by rw [V7_v11]))
  · rw [p9_keep_v32]; exact p8_v32 (V7_v11 m c) ((V7_v12 m c).trans (by rw [V7_v11]))
  · rw [p9_keep_v0, p8_v0]; exact V7_v0 m c

end Cert.Kernel.Run
-- ==== Proof.Pre.lean ====
/- What the precondition `sized` says of the group sizes. -/
module

public import Idealize.ShloMosaic.Lib.Routing.Words
public import proofs.«01_k».proof.Proof.Gen.Pre_sized
public import proofs.«01_k».proof.Proof.WorkList

@[expose] public section

namespace Cert.Pre

open Idealize.ShloMosaic Idealize.ShloMosaic.WordCmp Idealize.ShloMosaic.Routing Idealize.ShloMosaic.ValueIdx

/-- Nine group sizes as natural numbers, zero past the ninth. -/
noncomputable def size (g : IVec (shape1 9) 32) (j : Nat) : Nat := if h : j < 9 then (g (ix1 ⟨j, h⟩)).toNat else 0

/-- The group sizes are natural numbers that sum to 4096. -/
structure Sized (g : IVec (shape1 9) 32) : Prop where
  word : ∀ i : Fin 9, g (ix1 i) = BitVec.ofNat 32 (size g i.val)
  sum : WorkList.en (size g) 8 = 4096

theorem word_of (g : IVec (shape1 9) 32) (i : Fin 9) : g (ix1 i) = BitVec.ofNat 32 (size g i.val) := by
  unfold size
  rw [dif_pos i.isLt, BitVec.ofNat_toNat, BitVec.setWidth_eq]

theorem andi_one {x y : BitVec 1} (h : IntOp.andi x y = 1#1) : x = 1#1 ∧ y = 1#1 := by
  revert x y; decide

/-- Words between 0 and 4096 whose sum is the word 4096 are natural numbers that sum to 4096. -/
theorem sized_of (g : IVec (shape1 9) 32) (hr : (shape1 9).ReducesTo [0] shape0) (hu : 0 < shape0.numel)
    (h0 : ∀ i : Fin 9, IntOp.cmpi .sge (g (ix1 i)) 0#32 = 1#1) (h1 : ∀ i : Fin 9, IntOp.cmpi .sle (g (ix1 i)) 4096#32 = 1#1)
    (hsum : IntOp.cmpi .eq (Host.reduce IntOp.addi g (constantI shape0 32 0#32) hr hu ix0) 4096#32 = 1#1) : Sized g := by
  have hb : ∀ i : Fin 9, size g i.val ≤ 4096 := by
    intro i
    have a := h0 i
    have b := h1 i
    rw [cmpi_sge_zero, ofBool_decide_eq_one_iff] at a
    rw [cmpi_sle_of_lt (by simpa using a) (by decide), ofBool_decide_eq_one_iff] at b
    unfold size
    rw [dif_pos i.isLt]
    simpa using b
  refine ⟨word_of g, ?_⟩
  rw [reduce_sum (f := size g) (hx := word_of g)] at hsum
  have e : BitVec.ofNat 32 ((List.range 9).map (size g)).sum = 4096#32 := by
    revert hsum
    unfold IntOp.cmpi
    generalize BitVec.ofNat 32 ((List.range 9).map (size g)).sum = x
    intro h
    exact beq_iff_eq.1 ((ofBool_eq_one_iff _).1 h)
  have hle : ((List.range 9).map (size g)).sum ≤ 9 * 4096 := by
    have b0 := hb 0; have b1 := hb 1; have b2 := hb 2; have b3 := hb 3; have b4 := hb 4
    have b5 := hb 5; have b6 := hb 6; have b7 := hb 7; have b8 := hb 8
    simp only [List.range_succ, List.range_zero, List.nil_append, List.map_append, List.map_cons, List.map_nil, List.sum_append,
      List.sum_cons, List.sum_nil]
    simp only [Fin.val_zero, Fin.val_one, Fin.val_two, Fin.isValue] at b0 b1 b2
    change size g 3 ≤ 4096 at b3
    change size g 4 ≤ 4096 at b4
    change size g 5 ≤ 4096 at b5
    change size g 6 ≤ 4096 at b6
    change size g 7 ≤ 4096 at b7
    change size g 8 ≤ 4096 at b8
    omega
  have e' := congrArg BitVec.toNat e
  rw [BitVec.toNat_ofNat, Nat.mod_eq_of_lt (by omega)] at e'
  exact e'

/-- `sized`, read. -/
theorem of_sized {F : FTy → Type} [FloatOps F] (x : FVec F Pre_sized.S4096x7168 .bf16) (g : IVec Pre_sized.S9 32)
    (w : FVec F Pre_sized.S9x7168x2048 .fp8e4m3) (sc : IVec Pre_sized.S9x224x2048 8)
    (h : Pre_sized.fn x g w sc = fun _ => 1#1) : Sized g := by
  have hi : ∀ i : Fin 9, _ := fun i => congrFun h (ix1 i)
  refine sized_of g Pre_sized.Gen.facts.reducesTo_S9_S_d0 Pre_sized.Gen.facts.h_S_ (fun i => (andi_one (andi_one (hi i)).1).1) (fun i => (andi_one (andi_one (hi i)).1).2) ?_
  have := (andi_one (hi 0)).2
  refine Eq.trans (congrArg (fun x => IntOp.cmpi .eq (Host.reduce IntOp.addi g (constantI shape0 32 0#32) _ _ x) 4096#32) ?_) this
  exact (eq_ix0 _).symm

end Cert.Pre
-- ==== Proof.Kernel.Admissible.lean ====
/- The prefetched tables at group sizes the precondition admits, and that they keep every block inside its array. -/
module

public import proofs.«01_k».proof.Proof.Kernel.Tables
public import proofs.«01_k».proof.Proof.Pre

@[expose] public section

noncomputable section

namespace Cert.Kernel.Run

open Cert.Kernel Cert.Kernel.Gen Idealize.ShloMosaic Idealize.ShloMosaic.TcCoe Idealize.SL.Sem Idealize.ShloMosaic.ValueIdx Idealize.ShloMosaic.Routing

variable {F : FTy → Type} [FloatOps F]

variable (m : (ℓ : Loc nD τ sig) → Buf (Elt F) ℓ)

/-- The group sizes in memory. -/
abbrev groups : IVec (shape1 9) 32 := m (((0 : Dev nD) : Thread nD τ).loc main_arg1)

variable {m}

omit [FloatOps F] in
/-- A load of one table entry reads the entry. -/
theorem emb_first (j : Fin 24) (h : ∀ a, (![(Scalar.indexCast (BitVec.ofNat 32 j.val)).toNat] : Fin 1 → Nat) a + S1.size a ≤ S24.size a)
    (h1 : 0 < (Rect.unit (s := S24) ![(Scalar.indexCast (BitVec.ofNat 32 j.val)).toNat] S1.size h).shape.numel) :
    (Rect.unit (s := S24) ![(Scalar.indexCast (BitVec.ofNat 32 j.val)).toNat] S1.size h).emb (Shape.Idx.first h1) = ix1 j := by
  funext a
  obtain rfl : a = 0 := Subsingleton.elim _ _
  have hb : ∀ k : Fin 24, (Scalar.indexCast (BitVec.ofNat 32 k.val)).toNat = k.val := by decide
  have hz : (Shape.Idx.first h1 0).val = 0 := Nat.lt_one_iff.1 (Shape.Idx.first h1 0).isLt
  refine Fin.ext ?_
  show (Scalar.indexCast (BitVec.ofNat 32 j.val)).toNat + 1 * (Shape.Idx.first h1 0).val = j.val
  rw [hz, hb, Nat.mul_zero, Nat.add_zero]

omit [FloatOps F] in
/-- The column block's word. -/
theorem col_word (i : grid0.Coords) : (BitVec.ofNat 32 (i 0).val).toNat = (i 0).val :=
  (by decide : ∀ k : Fin 4, (BitVec.ofNat 32 k.val).toNat = k.val) (i 0)

section

variable (hp : Cert.Pre.Sized (groups m))

include hp

/-- The table of experts. -/
theorem tbl_grp (i : Fin 24) : tbl m 0 (ix1 i) = BitVec.ofNat 32 (WorkList.grp (Cert.Pre.size (groups m)) i.val) :=
  (congrFun (V_grp m 0) (ix1 i)).trans (Cert.Plan.vGrp_at hp.word hp.sum i)

/-- The table of tiles. -/
theorem tbl_tile (i : Fin 24) : tbl m 1 (ix1 i) = BitVec.ofNat 32 (WorkList.tile (Cert.Pre.size (groups m)) i.val) :=
  (congrFun (V_tile m 0) (ix1 i)).trans (Cert.Plan.vTile_at hp.word hp.sum i)

/-- The table of first rows. -/
theorem tbl_lo (i : Fin 24) : tbl m 2 (ix1 i) = BitVec.ofNat 32 (WorkList.lo (Cert.Pre.size (groups m)) i.val) :=
  (congrFun (V_lo m 0) (ix1 i)).trans (Cert.Plan.vLo_at hp.word hp.sum i)

/-- The table of last rows. -/
theorem tbl_hi (i : Fin 24) : tbl m 3 (ix1 i) = BitVec.ofNat 32 (WorkList.hi (Cert.Pre.size (groups m)) i.val) :=
  (congrFun (V_hi m 0) (ix1 i)).trans (Cert.Plan.vHi_at hp.word hp.sum i)

/-- What an index map reads of the table of experts at a grid point. -/
theorem at_grp (i : grid0.Coords) :
    BitVec.toNat (Pipeline.Prefetch.Contents.at (tbl m) 0 (Rect.unit (s := S24) ![(Scalar.indexCast (BitVec.ofNat 32 (i 1).val)).toNat] S1.size (Facts₀.k0_off1_inb i)) Facts₀.numel1_S1)
      = WorkList.grp (Cert.Pre.size (groups m)) (i 1).val := by
  have h := tbl_grp hp (i 1)
  have hle := (WorkList.grp_spec _ hp.sum (i 1).val).1
  refine (congrArg (fun k => BitVec.toNat (tbl m 0 k)) (emb_first (i 1) _ _)).trans ((congrArg BitVec.toNat h).trans ?_)
  rw [BitVec.toNat_ofNat, Nat.mod_eq_of_lt (by omega)]

/-- What an index map reads of the table of tiles at a grid point. -/
theorem at_tile (i : grid0.Coords) :
    BitVec.toNat (Pipeline.Prefetch.Contents.at (tbl m) 1 (Rect.unit (s := S24) ![(Scalar.indexCast (BitVec.ofNat 32 (i 1).val)).toNat] S1.size (Facts₀.k0_off1_inb i)) Facts₀.numel1_S1)
      = WorkList.tile (Cert.Pre.size (groups m)) (i 1).val := by
  have h := tbl_tile hp (i 1)
  have hle := (WorkList.tile_bounds _ hp.sum (i 1).val).2.2
  refine (congrArg (fun k => BitVec.toNat (tbl m 1 k)) (emb_first (i 1) _ _)).trans ((congrArg BitVec.toNat h).trans ?_)
  rw [BitVec.toNat_ofNat, Nat.mod_eq_of_lt (by omega)]

/-- The block index of the activations. -/
theorem transform_0 (i : grid0.Coords) :
    cc0_transform_0 Facts₀.k0_off1_inb Facts₀.numel1_S1 (tbl m) i = ![WorkList.tile (Cert.Pre.size (groups m)) (i 1).val, 0] :=
  congrArg (fun k => ![k, 0]) (at_tile hp i)

/-- The block index of the weights. -/
theorem transform_1 (i : grid0.Coords) :
    cc0_transform_1 Facts₀.k0_off1_inb Facts₀.numel1_S1 (tbl m) i = ![WorkList.grp (Cert.Pre.size (groups m)) (i 1).val, 0, (i 0).val] :=
  (congrArg (fun k => ![k, 0, (BitVec.ofNat 32 (i 0).val).toNat]) (at_grp hp i)).trans (congrArg (fun k => ![WorkList.grp (Cert.Pre.size (groups m)) (i 1).val, 0, k]) (col_word i))

/-- The block index of the scale codes. -/
theorem transform_2 (i : grid0.Coords) :
    cc0_transform_2 Facts₀.k0_off1_inb Facts₀.numel1_S1 (tbl m) i = ![WorkList.grp (Cert.Pre.size (groups m)) (i 1).val, 0, (i 0).val] :=
  (congrArg (fun k => ![k, 0, (BitVec.ofNat 32 (i 0).val).toNat]) (at_grp hp i)).trans (congrArg (fun k => ![WorkList.grp (Cert.Pre.size (groups m)) (i 1).val, 0, k]) (col_word i))

/-- The block index of the result. -/
theorem transform_3 (i : grid0.Coords) :
    cc0_transform_3 Facts₀.k0_off1_inb Facts₀.numel1_S1 (tbl m) i = ![WorkList.tile (Cert.Pre.size (groups m)) (i 1).val, (i 0).val] :=
  (congrArg (fun k => ![k, (BitVec.ofNat 32 (i 0).val).toNat]) (at_tile hp i)).trans (congrArg (fun k => ![WorkList.tile (Cert.Pre.size (groups m)) (i 1).val, k]) (col_word i))

/-- Every block the tables name is inside its array, and its ends fall on whole words. -/
theorem ok_of_sized : Ok m := by
  have hg : ∀ i : grid0.Coords, WorkList.grp (Cert.Pre.size (groups m)) (i 1).val ≤ 8 := fun i => (WorkList.grp_spec _ hp.sum (i 1).val).1
  have ht : ∀ i : grid0.Coords, WorkList.tile (Cert.Pre.size (groups m)) (i 1).val ≤ 15 := fun i => (WorkList.tile_bounds _ hp.sum (i 1).val).2.2
  have hn : ∀ i : grid0.Coords, (i 0).val < 4 := fun i => (i 0).isLt
  refine ⟨fun i => ⟨?_, .inr ?_⟩, fun i => ⟨?_, .inr ?_⟩, fun i => ⟨?_, .inr ?_⟩, fun i => ⟨?_, .inr ?_⟩⟩
  · rw [transform_0 hp]
    have := ht i
    intro a
    match a with
    | 0 => show (WorkList.tile (Cert.Pre.size (groups m)) (i 1).val + 1) * 256 ≤ 4096; omega
    | 1 => show (0 + 1) * 7168 ≤ 7168; omega
  · refine Affine.words_of_packed (Affine.packed_dvd (by decide) ?_ ?_)
    · exact Dvd.dvd.mul_left (by decide : 2 ∣ 256) _
    · decide
  · rw [transform_1 hp]
    have := hg i
    have := hn i
    intro a
    match a with
    | 0 => show (WorkList.grp (Cert.Pre.size (groups m)) (i 1).val + 1) * 1 ≤ 9; omega
    | 1 => show (0 + 1) * 7168 ≤ 7168; omega
    | 2 => show ((i 0).val + 1) * 512 ≤ 2048; omega
  · refine Affine.words_rows (by decide) ?_ ?_
    · exact Nat.zero_mul 7168
    · rfl
  · rw [transform_2 hp]
    have := hg i
    have := hn i
    intro a
    match a with
    | 0 => show (WorkList.grp (Cert.Pre.size (groups m)) (i 1).val + 1) * 1 ≤ 9; omega
    | 1 => show (0 + 1) * 224 ≤ 224; omega
    | 2 => show ((i 0).val + 1) * 512 ≤ 2048; omega
  · refine Affine.words_rows (by decide) ?_ ?_
    · exact Nat.zero_mul 224
    · rfl
  · rw [transform_3 hp]
    have := ht i
    have := hn i
    intro a
    match a with
    | 0 => show (WorkList.tile (Cert.Pre.size (groups m)) (i 1).val + 1) * 256 ≤ 4096; omega
    | 1 => show ((i 0).val + 1) * 512 ≤ 2048; omega
  · refine Affine.words_of_packed (Affine.packed_dvd (by decide) ?_ ?_)
    · exact Dvd.dvd.mul_left (by decide : 2 ∣ 256) _
    · decide

end

end Cert.Kernel.Run

end
-- ==== Proof.Kernel.RunA.lean ====
/- The body of the printed kernel at a point that dequantises a weight block. -/
module

public import proofs.«01_k».proof.Proof.Kernel.Runs

@[expose] public section

-- membership in a rectangle of production extents (`View.cover_of_tiled`): the elaborator's structural look
-- recurses once per coordinate of the long axes
set_option maxRecDepth 16384

noncomputable section

namespace Cert.Kernel.Run

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points all): on whole staging memrefs — the inputs' at their contents,
    the FORGOTTEN outputs' (3) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_A (c : Dev nD) (i : grid0.Coords) (arg6 : Memref sig .tc .vmem S256x7168 .bf16) (harg6 : arg6.IsWhole) (arg7 : Memref sig .tc .vmem S1x7168x512 .fp8e4m3) (harg7 : arg7.IsWhole) (arg8 : Memref sig .tc .vmem S1x224x512 .i8) (harg8 : arg8.IsWhole) (arg9 : Memref sig .tc .vmem S256x512 .bf16) (harg9 : arg9.IsWhole) (arg10 : Memref sig .tc .vmem S7168x512 .bf16) (harg10 : arg10.IsWhole)
    (x0 : Vec F S256x7168 .bf16) (x1 : Vec F S1x7168x512 .fp8e4m3) (x2 : Vec F S1x224x512 .i8) (xt0 : TbBuf0 (F := F) c tbM0_0) (xt1 : TbBuf0 (F := F) c tbM0_1) (xt2 : TbBuf0 (F := F) c tbM0_2) (xt3 : TbBuf0 (F := F) c tbM0_3) (hc0 : cond0_0 i (tbM0_0.view.readAt (Elt F) (Rect.unit (s := S24) (k0_off1 i) S1.size (k0_off1_inb i)).toLoadRect xt0 (Shape.Idx.first (numel1_S1.symm ▸ Nat.one_pos))) (tbM0_0.view.readAt (Elt F) (Rect.unit (s := S24) (k0_off2 i) S1.size (k0_off2_inb i)).toLoadRect xt0 (Shape.Idx.first (numel1_S1.symm ▸ Nat.one_pos)))) :
      ∀ (E : Set ℕ) (K : PUnit → sProp 𝕄),
        iprop(owns (c : Thread nD τ) arg6 fullShare x0 ∗ owns (c : Thread nD τ) arg7 fullShare x1 ∗ owns (c : Thread nD τ) arg8 fullShare x2 ∗ (∃ d, owns (c : Thread nD τ) arg9 fullShare d) ∗ (∃ d, owns (c : Thread nD τ) arg10 fullShare d) ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ (∃ d, owns (c : Thread nD τ) arg9 fullShare d) ∗ (∃ d, owns (c : Thread nD τ) arg10 fullShare d) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped_matmul i tbM0_0 htbM0_0 tbM0_1 htbM0_1 tbM0_2 htbM0_2 tbM0_3 htbM0_3 arg6 harg6 arg7 harg7 arg8 harg8 arg9 harg9 arg10 harg10) K := by
    intro E K
    simp only [cc0_grouped_matmul_eq_skeleton]; unfold cc0_grouped_matmul_skel
    unfold owns
    iintro ⟨⟨%f0, %hf0, H0⟩, ⟨%f1, %hf1, H1⟩, ⟨%f2, %hf2, H2⟩, ⟨%d3, %f3, -, H3⟩, ⟨%ds0, %fs0, -, HS0⟩, HT0, HT1, HT2, HT3, Hk⟩
    obtain rfl := harg6.eq_unread hf0; obtain rfl := harg7.eq_unread hf1; obtain rfl := harg8.eq_unread hf2
    sl_exec (disch := first | sl_exact hc0)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _, _; isplitr; swap; · iexact H3
      ipureintro; rfl
    isplitl [HS0]
    · iexists _, _; isplitr; swap; · iexact HS0
      ipureintro; rfl
    isplitl [HT0]; · iexact HT0
    isplitl [HT1]; · iexact HT1
    isplitl [HT2]; · iexact HT2
    iexact HT3

end Cert.Kernel.Run

end
-- ==== Proof.Kernel.RunB.lean ====
/- The body of the printed kernel at a point that keeps the weight block of the point before. -/
module

public import proofs.«01_k».proof.Proof.Kernel.RunA

@[expose] public section

-- membership in a rectangle of production extents (`View.cover_of_tiled`): the elaborator's structural look
-- recurses once per coordinate of the long axes
set_option maxRecDepth 16384

noncomputable section

namespace Cert.Kernel.Run

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points all): on whole staging memrefs — the inputs' at their contents,
    the FORGOTTEN outputs' (3) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_B (c : Dev nD) (i : grid0.Coords) (arg6 : Memref sig .tc .vmem S256x7168 .bf16) (harg6 : arg6.IsWhole) (arg7 : Memref sig .tc .vmem S1x7168x512 .fp8e4m3) (harg7 : arg7.IsWhole) (arg8 : Memref sig .tc .vmem S1x224x512 .i8) (harg8 : arg8.IsWhole) (arg9 : Memref sig .tc .vmem S256x512 .bf16) (harg9 : arg9.IsWhole) (arg10 : Memref sig .tc .vmem S7168x512 .bf16) (harg10 : arg10.IsWhole)
    (x0 : Vec F S256x7168 .bf16) (x1 : Vec F S1x7168x512 .fp8e4m3) (x2 : Vec F S1x224x512 .i8) (xt0 : TbBuf0 (F := F) c tbM0_0) (xt1 : TbBuf0 (F := F) c tbM0_1) (xt2 : TbBuf0 (F := F) c tbM0_2) (xt3 : TbBuf0 (F := F) c tbM0_3) (hc0 : ¬cond0_0 i (tbM0_0.view.readAt (Elt F) (Rect.unit (s := S24) (k0_off1 i) S1.size (k0_off1_inb i)).toLoadRect xt0 (Shape.Idx.first (numel1_S1.symm ▸ Nat.one_pos))) (tbM0_0.view.readAt (Elt F) (Rect.unit (s := S24) (k0_off2 i) S1.size (k0_off2_inb i)).toLoadRect xt0 (Shape.Idx.first (numel1_S1.symm ▸ Nat.one_pos)))) :
      ∀ (E : Set ℕ) (K : PUnit → sProp 𝕄),
        iprop(owns (c : Thread nD τ) arg6 fullShare x0 ∗ owns (c : Thread nD τ) arg7 fullShare x1 ∗ owns (c : Thread nD τ) arg8 fullShare x2 ∗ (∃ d, owns (c : Thread nD τ) arg9 fullShare d) ∗ (∃ d, owns (c : Thread nD τ) arg10 fullShare d) ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ (∃ d, owns (c : Thread nD τ) arg9 fullShare d) ∗ (∃ d, owns (c : Thread nD τ) arg10 fullShare d) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped_matmul i tbM0_0 htbM0_0 tbM0_1 htbM0_1 tbM0_2 htbM0_2 tbM0_3 htbM0_3 arg6 harg6 arg7 harg7 arg8 harg8 arg9 harg9 arg10 harg10) K := by
    intro E K
    simp only [cc0_grouped_matmul_eq_skeleton]; unfold cc0_grouped_matmul_skel
    unfold owns
    iintro ⟨⟨%f0, %hf0, H0⟩, ⟨%f1, %hf1, H1⟩, ⟨%f2, %hf2, H2⟩, ⟨%d3, %f3, -, H3⟩, ⟨%ds0, %fs0, -, HS0⟩, HT0, HT1, HT2, HT3, Hk⟩
    obtain rfl := harg6.eq_unread hf0; obtain rfl := harg7.eq_unread hf1; obtain rfl := harg8.eq_unread hf2
    sl_exec (disch := first | sl_exact hc0)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _, _; isplitr; swap; · iexact H3
      ipureintro; rfl
    isplitl [HS0]
    · iexists _, _; isplitr; swap; · iexact HS0
      ipureintro; rfl
    isplitl [HT0]; · iexact HT0
    isplitl [HT1]; · iexact HT1
    isplitl [HT2]; · iexact HT2
    iexact HT3

end Cert.Kernel.Run

end
-- ==== Proof.Kernel.Frame.lean ====
/- The frame of the printed kernel, for tables whose blocks lie inside their arrays. -/
module

public import proofs.«01_k».proof.Proof.Kernel.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Run

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3): nothing reads what the kernel leaves in them, so nothing
    of it is named (Lib/Pipeline/Dat.lean `Dat.toRForget`). -/
def forgets0 : Fin 4 → Bool := fun w => w.val == 3

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ (∃ d, owns (c : Thread nD τ) (ms0_3 m hO t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq, PhiA0_eq]
  by_cases h0 : cond0_0 (grid0.coords t) (tbM0_0.view.readAt (Elt F) (Rect.unit (s := S24) (k0_off1 (grid0.coords t)) S1.size (k0_off1_inb (grid0.coords t))).toLoadRect (tbl m 0) (Shape.Idx.first (numel1_S1.symm ▸ Nat.one_pos))) (tbM0_0.view.readAt (Elt F) (Rect.unit (s := S24) (k0_off2 (grid0.coords t)) S1.size (k0_off2_inb (grid0.coords t))).toLoadRect (tbl m 0) (Shape.Idx.first (numel1_S1.symm ▸ Nat.one_pos)))
  · iintro ⟨⟨⟨HS0, Hg⟩, ⟨HT0, HT1, HT2, HT3⟩⟩, Ho, ⟨%d0, H0⟩, ⟨%d1, H1⟩, ⟨%d2, H2⟩, ⟨%d3, H3⟩⟩
    iapply ((kernelRun0_A c (grid0.coords t) _ _ _ _ _ _ _ _ _ _ (iblk m hO c 0 t) (iblk m hO c 1 t) (iblk m hO c 2 t) (tbl m 0) (tbl m 1) (tbl m 2) (tbl m 3) h0) Set.univ _)
    isplitl [H0]; · iexact H0
    isplitl [H1]; · iexact H1
    isplitl [H2]; · iexact H2
    isplitl [H3]; · iexists _; iexact H3
    isplitl [HS0]; · iexact HS0
    isplitl [HT0]; · iexact HT0
    isplitl [HT1]; · iexact HT1
    isplitl [HT2]; · iexact HT2
    isplitl [HT3]; · iexact HT3
    iintro ⟨H0, H1, H2, H3, HS0, HT0, HT1, HT2, HT3⟩
    isplitl [HS0 Hg HT0 HT1 HT2 HT3]
    · isplitl [HS0 Hg]
      · isplitl [HS0]
        · iexact HS0
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    iexact H3
  · iintro ⟨⟨⟨HS0, Hg⟩, ⟨HT0, HT1, HT2, HT3⟩⟩, Ho, ⟨%d0, H0⟩, ⟨%d1, H1⟩, ⟨%d2, H2⟩, ⟨%d3, H3⟩⟩
    iapply ((kernelRun0_B c (grid0.coords t) _ _ _ _ _ _ _ _ _ _ (iblk m hO c 0 t) (iblk m hO c 1 t) (iblk m hO c 2 t) (tbl m 0) (tbl m 1) (tbl m 2) (tbl m 3) h0) Set.univ _)
    isplitl [H0]; · iexact H0
    isplitl [H1]; · iexact H1
    isplitl [H2]; · iexact H2
    isplitl [H3]; · iexists _; iexact H3
    isplitl [HS0]; · iexact HS0
    isplitl [HT0]; · iexact HT0
    isplitl [HT1]; · iexact HT1
    isplitl [HT2]; · iexact HT2
    isplitl [HT3]; · iexact HT3
    iintro ⟨H0, H1, H2, H3, HS0, HT0, HT1, HT2, HT3⟩
    isplitl [HS0 Hg HT0 HT1 HT2 HT3]
    · isplitl [HS0 Hg]
      · isplitl [HS0]
        · iexact HS0
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    iexact H3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
set_option maxHeartbeats 4000000 in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 3) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => (dats m hO 0 c).toRForget forgets0) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.Kernel.Run

end
-- ==== Proof.KernelIdeal.Points.lean ====
/- The staging memrefs and the body of the kernel at one point. -/
module

public import proofs.«01_k».proof.Proof.Gen.KernelIdeal
public import Idealize.ShloMosaic.Lib.Pipeline.Kit

@[expose] public section

noncomputable section

namespace Cert.KernelIdeal.Run

open Cert.KernelIdeal.Gen Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0: no schedule fact — its index map reads a prefetched table, so where it is fetched or written back depends on the tables' contents
-- window 1: no schedule fact — its index map reads a prefetched table, so where it is fetched or written back depends on the tables' contents
-- window 2: no schedule fact — its index map reads a prefetched table, so where it is fetched or written back depends on the tables' contents
-- window 3: no schedule fact — its index map reads a prefetched table, so where it is fetched or written back depends on the tables' contents

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_grouped_matmul (grid0.coords t) (Memref.whole main_v32) (Memref.isWhole_whole _) (Memref.whole main_v48) (Memref.isWhole_whole _) (Memref.whole main_v56) (Memref.isWhole_whole _) (Memref.whole main_v64) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _)

end Cert.KernelIdeal.Run

end
-- ==== Proof.KernelIdeal.Runs.lean ====
/- What the runs of the idealised kernel share: @main up to the pallas_call, the prefetched tables, the windows' blocks. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S24 .i32 := Memref.whole main_v32
abbrev htbM0_0 : tbM0_0.IsWhole := Memref.isWhole_whole _
abbrev tbM0_1 : Memref sig .tc .smem S24 .i32 := Memref.whole main_v48
abbrev htbM0_1 : tbM0_1.IsWhole := Memref.isWhole_whole _
abbrev tbM0_2 : Memref sig .tc .smem S24 .i32 := Memref.whole main_v56
abbrev htbM0_2 : tbM0_2.IsWhole := Memref.isWhole_whole _
abbrev tbM0_3 : Memref sig .tc .smem S24 .i32 := Memref.whole main_v64
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      (Pipeline.RDat.FramePost.arr_in h c 1 rfl).trans ((hA c 1).trans (V_main_arg2 m c)),
      (Pipeline.RDat.FramePost.arr_in h c 2 rfl).trans ((hA c 2).trans (V_main_arg3 m c))⟩) h

/-! ## The body's branch conditions -/

/-- The condition of the body's `scf.if` 0: over WORDS the body reads from its tables or input SMEM windows
    (`v2`, `v6`), so no function of the point — a case variable: a hypothesis of each run, a `by_cases`
    of the obligation and an `if` of `outsAt`, stated over the argument blocks' words there. -/
abbrev cond0_0 (i : grid0.Coords) (v2 : BitVec 32) (v6 : BitVec 32) : Prop := (Scalar.cmpi .ne (Scalar.extui (Scalar.ori (Scalar.cmpi .eq (BitVec.ofNat 32 (i 1).val) 0#32) (Scalar.cmpi .ne v2 v6))) 0#32) = 1#1

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S256x7168 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x7168x512 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x224x512 .i8 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x512 .bf16 := spec0_3.stage ((cfgM m hO).slots t 3)
abbrev hs0_3 (hO : Ok m) (t : Fin (cfgM m hO).N) : (ms0_3 m hO t).IsWhole := hstage0_3 (((cfgM m hO).slots t 3).cast nbuf0_3)
/-- The scratch operands: whole scoped buffers of the kernel's own, passed beside the windows. -/
abbrev scM0_0 : Memref sig .tc .vmem S7168x512 .bf16 := Memref.whole cc0_scratch0

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Run

end
-- ==== Proof.KernelIdeal.Tables.lean ====
/- The four tables that the program computes from the group sizes, as `Cert.Plan` states them. -/
module

public import proofs.«01_k».proof.Proof.KernelIdeal.Runs
public import proofs.«01_k».proof.Proof.Plan
public import Idealize.ShloMosaic.Lib.StableHlo.RunRead
public import Idealize.ShloMosaic.Lib.Pipeline.Frame

@[expose] public section

set_option maxRecDepth 16384

noncomputable section

namespace Cert.KernelIdeal.Run

open Cert.KernelIdeal.Gen Idealize.ShloMosaic Idealize.ShloMosaic.TcCoe Idealize.ShloMosaic.ValueIdx

variable {F : FTy → Type} [FloatOps F]
variable (m : (ℓ : Loc nD τ sig) → Buf (Elt F) ℓ)

/-- The side conditions of the printed operations. -/
def sides : Cert.Plan.Sides where
  h0 := Facts₀.h_S_
  b00 := Facts₀.bcast_S_S_
  win9 := Facts₀.reduceWindows_S9_S9_w9s1p8_0
  b9 := Facts₀.bcast_S_S9
  last := Facts₀.slices_S9_S1_8
  drop := Facts₀.shapeCasts_S1_S_
  b24 := Facts₀.bcast_S_S24
  col := Facts₀.bcast_S24_S24x1_0
  row := Facts₀.bcast_S9_S1x9_1
  cols := Facts₀.bcast_S24x1_S24x9_0_1
  rows := Facts₀.bcast_S1x9_S24x9_0_1
  lt32 := Facts₀.natLt_1_32
  red := Facts₀.reducesTo_S24x9_S24_d1
  take := gather_S9_S24x1_S24_n_0_n_n_0_1_1
  tcoll := rfl
  tob := rfl
  tsim := rfl
  tivd := rfl

/-- The buffers after the first eight stretches of host operations: everything up to the second running sum. -/
def V7 (c : Dev nD) : Valuation τ sig (Elt F) :=
  StableHlo.after (List.flatten [hostOps0, hostOps0_1, hostOps0_2, hostOps0_3, hostOps0_4, hostOps0_5, hostOps0_6, hostOps0_7]) (fun b => m (c, b))

/-- The buffers the region finds are those after the last four stretches. -/
theorem V_eq (c : Dev nD) (b : Ref sig .tc) : V m c b
    = StableHlo.after hostOps0_11 (StableHlo.after hostOps0_10 (StableHlo.after hostOps0_9 (StableHlo.after hostOps0_8 (V7 m c)))) (Proc.devRef .tc b) := by
  unfold V V7
  simp only [List.flatten_cons, List.flatten_nil, List.append_nil, StableHlo.after_append]

set_option maxHeartbeats 4000000 in
theorem V7_v0 (c : Dev nD) : V7 m c (Proc.devRef .tc main_v0) = Cert.Plan.vEnd sides (m ((c : Thread nD τ).loc main_arg1)) := by
  unfold V7
  after_reads_simp
  simp -implicitDefEqProofs only [StableHlo.TRef.toBuf, StableHlo.TRef.ofBuf, cast_cast, cast_eq, id]
  unfold Cert.Plan.vEnd Cert.Plan.csum
  with_reducible rfl

set_option maxHeartbeats 4000000 in
theorem V7_v1 (c : Dev nD) : V7 m c (Proc.devRef .tc main_v1) = Cert.Plan.vStart sides (m ((c : Thread nD τ).loc main_arg1)) := by
  unfold V7
  after_reads_simp
  simp -implicitDefEqProofs only [StableHlo.TRef.toBuf, StableHlo.TRef.ofBuf, cast_cast, cast_eq, id]
  unfold Cert.Plan.vStart Cert.Plan.vEnd Cert.Plan.csum
  with_reducible rfl

set_option maxHeartbeats 4000000 in
theorem V7_v2 (c : Dev nD) : V7 m c (Proc.devRef .tc main_v2) = Cert.Plan.vFirst sides (m ((c : Thread nD τ).loc main_arg1)) := by
  unfold V7
  after_reads_simp
  simp -implicitDefEqProofs only [StableHlo.TRef.toBuf, StableHlo.TRef.ofBuf, cast_cast, cast_eq, id]
  unfold Cert.Plan.vFirst Cert.Plan.vStart Cert.Plan.vEnd Cert.Plan.csum Idealize.ShloMosaic.Routing.pyDiv
  with_reducible rfl

set_option maxHeartbeats 4000000 in
theorem V7_v11 (c : Dev nD) : V7 m c (Proc.devRef .tc main_v11) = Cert.Plan.vTiles sides (m ((c : Thread nD τ).loc main_arg1)) := by
  unfold V7
  after_reads_simp
  simp -implicitDefEqProofs only [StableHlo.TRef.toBuf, StableHlo.TRef.ofBuf, cast_cast, cast_eq, id]
  unfold Cert.Plan.vTiles Cert.Plan.vFirst Cert.Plan.vStart Cert.Plan.vEnd Cert.Plan.csum Cert.Plan.k9 Idealize.ShloMosaic.Routing.pyDiv
  with_reducible rfl

set_option maxHeartbeats 4000000 in
theorem V7_v12 (c : Dev nD) : V7 m c (Proc.devRef .tc main_v12) = Cert.Plan.csum sides (Cert.Plan.vTiles sides (m ((c : Thread nD τ).loc main_arg1))) := by
  unfold V7
  after_reads_simp
  simp -implicitDefEqProofs only [StableHlo.TRef.toBuf, StableHlo.TRef.ofBuf, cast_cast, cast_eq, id]
  unfold Cert.Plan.vTiles Cert.Plan.vFirst Cert.Plan.vStart Cert.Plan.vEnd Cert.Plan.csum Cert.Plan.k9 Idealize.ShloMosaic.Routing.pyDiv
  with_reducible rfl

section
variable {W : Valuation τ sig (Elt F)} {g : IVec S9 32}

set_option maxHeartbeats 4000000 in
theorem p8_v32 (h11 : W (Proc.devRef .tc main_v11) = Cert.Plan.vTiles sides g) (h12 : W (Proc.devRef .tc main_v12) = Cert.Plan.csum sides (W (Proc.devRef .tc main_v11))) :
    StableHlo.after hostOps0_8 W (Proc.devRef .tc main_v32) = Cert.Plan.vGrp sides g := by
  simp only [Cert.Plan.vGrp, Cert.Plan.vItem, Cert.Plan.vTotal, Cert.Plan.vBase, ← h11, ← h12]
  after_reads_simp
  rfl

set_option maxHeartbeats 4000000 in
theorem p8_v21 (h11 : W (Proc.devRef .tc main_v11) = Cert.Plan.vTiles sides g) (h12 : W (Proc.devRef .tc main_v12) = Cert.Plan.csum sides (W (Proc.devRef .tc main_v11))) :
    StableHlo.after hostOps0_8 W (Proc.devRef .tc main_v21) = Cert.Plan.vLive sides g := by
  simp only [Cert.Plan.vLive, Cert.Plan.vTotal, Cert.Plan.vBase, ← h11, ← h12]
  after_reads_simp
  rfl

set_option maxHeartbeats 4000000 in
theorem p8_v48 (h11 : W (Proc.devRef .tc main_v11) = Cert.Plan.vTiles sides g) (h12 : W (Proc.devRef .tc main_v12) = Cert.Plan.csum sides (W (Proc.devRef .tc main_v11))) (h2 : W (Proc.devRef .tc main_v2) = Cert.Plan.vFirst sides g) :
    StableHlo.after hostOps0_8 W (Proc.devRef .tc main_v48) = Cert.Plan.vTile sides g := by
  simp only [Cert.Plan.vTile, Cert.Plan.at_, Cert.Plan.k24, Cert.Plan.vGrp, Cert.Plan.vItem, Cert.Plan.vTotal, Cert.Plan.vBase, ← h11, ← h12, ← h2]
  after_reads_simp
  rfl

set_option maxHeartbeats 4000000 in
theorem p8_v55 (h11 : W (Proc.devRef .tc main_v11) = Cert.Plan.vTiles sides g) (h12 : W (Proc.devRef .tc main_v12) = Cert.Plan.csum sides (W (Proc.devRef .tc main_v11))) (h1 : W (Proc.devRef .tc main_v1) = Cert.Plan.vStart sides g) :
    StableHlo.after hostOps0_8 W (Proc.devRef .tc main_v55) = Cert.Plan.at_ sides g (Cert.Plan.vStart sides g) := by
  simp only [Cert.Plan.at_, Cert.Plan.k24, Cert.Plan.vGrp, Cert.Plan.vItem, Cert.Plan.vTotal, Cert.Plan.vBase, ← h11, ← h12, ← h1]
  after_reads_simp
  rfl

theorem p8_v0 : StableHlo.after hostOps0_8 W (Proc.devRef .tc main_v0) = W (Proc.devRef .tc main_v0) := by
  after_reads_simp

theorem p8_c13 : StableHlo.after hostOps0_8 W (Proc.devRef .tc main_c_13) = constantI S_ 32 0#32 := by
  after_reads_simp

theorem p9_v56 (h21 : W (Proc.devRef .tc main_v21) = Cert.Plan.vLive sides g) (h55 : W (Proc.devRef .tc main_v55) = Cert.Plan.at_ sides g (Cert.Plan.vStart sides g))
    (hc : W (Proc.devRef .tc main_c_13) = constantI S_ 32 0#32) :
    StableHlo.after hostOps0_9 W (Proc.devRef .tc main_v56) = Cert.Plan.vLo sides g := by
  simp only [Cert.Plan.vLo, Cert.Plan.k24, ← h21, ← h55]
  rw [show constantI Routing.shape0 32 0#32 = W (Proc.devRef .tc main_c_13) from hc.symm]
  after_reads_simp
  simp -implicitDefEqProofs only [StableHlo.TRef.toBuf, StableHlo.TRef.ofBuf, cast_cast, cast_eq, id]
  try rfl

set_option maxHeartbeats 4000000 in
theorem p10_v63 (h32 : W (Proc.devRef .tc main_v32) = Cert.Plan.vGrp sides g) (h0 : W (Proc.devRef .tc main_v0) = Cert.Plan.vEnd sides g) :
    StableHlo.after hostOps0_10 W (Proc.devRef .tc main_v63) = Cert.Plan.at_ sides g (Cert.Plan.vEnd sides g) := by
  simp only [Cert.Plan.at_, Cert.Plan.k24, ← h32, ← h0]
  after_reads_simp
  rfl

theorem p10_c16 : StableHlo.after hostOps0_10 W (Proc.devRef .tc main_c_16) = constantI S_ 32 0#32 := by
  after_reads_simp

theorem p11_v64 (h21 : W (Proc.devRef .tc main_v21) = Cert.Plan.vLive sides g) (h63 : W (Proc.devRef .tc main_v63) = Cert.Plan.at_ sides g (Cert.Plan.vEnd sides g))
    (hc : W (Proc.devRef .tc main_c_16) = constantI S_ 32 0#32) :
    StableHlo.after hostOps0_11 W (Proc.devRef .tc main_v64) = Cert.Plan.vHi sides g := by
  simp only [Cert.Plan.vHi, Cert.Plan.k24, ← h21, ← h63]
  rw [show constantI Routing.shape0 32 0#32 = W (Proc.devRef .tc main_c_16) from hc.symm]
  after_reads_simp
  simp -implicitDefEqProofs only [StableHlo.TRef.toBuf, StableHlo.TRef.ofBuf, cast_cast, cast_eq, id]
  try rfl

theorem p9_keep_v0 : StableHlo.after hostOps0_9 W (Proc.devRef .tc main_v0) = W (Proc.devRef .tc main_v0) := by
  after_reads_simp

theorem p9_keep_v21 : StableHlo.after hostOps0_9 W (Proc.devRef .tc main_v21) = W (Proc.devRef .tc main_v21) := by
  after_reads_simp

theorem p9_keep_v32 : StableHlo.after hostOps0_9 W (Proc.devRef .tc main_v32) = W (Proc.devRef .tc main_v32) := by
  after_reads_simp

theorem p9_keep_v48 : StableHlo.after hostOps0_9 W (Proc.devRef .tc main_v48) = W (Proc.devRef .tc main_v48) := by
  after_reads_simp

theorem p10_keep_v21 : StableHlo.after hostOps0_10 W (Proc.devRef .tc main_v21) = W (Proc.devRef .tc main_v21) := by
  after_reads_simp

theorem p10_keep_v32 : StableHlo.after hostOps0_10 W (Proc.devRef .tc main_v32) = W (Proc.devRef .tc main_v32) := by
  after_reads_simp

theorem p10_keep_v48 : StableHlo.after hostOps0_10 W (Proc.devRef .tc main_v48) = W (Proc.devRef .tc main_v48) := by
  after_reads_simp

theorem p10_keep_v56 : StableHlo.after hostOps0_10 W (Proc.devRef .tc main_v56) = W (Proc.devRef .tc main_v56) := by
  after_reads_simp

theorem p11_keep_v32 : StableHlo.after hostOps0_11 W (Proc.devRef .tc main_v32) = W (Proc.devRef .tc main_v32) := by
  after_reads_simp

theorem p11_keep_v48 : StableHlo.after hostOps0_11 W (Proc.devRef .tc main_v48) = W (Proc.devRef .tc main_v48) := by
  after_reads_simp

theorem p11_keep_v56 : StableHlo.after hostOps0_11 W (Proc.devRef .tc main_v56) = W (Proc.devRef .tc main_v56) := by
  after_reads_simp

end

variable (c : Dev nD)

/-- The table of each item's expert, as a function of the group sizes. -/
theorem V_grp : V m c main_v32 = Cert.Plan.vGrp sides (m ((c : Thread nD τ).loc main_arg1)) := by
  rw [V_eq, p11_keep_v32, p10_keep_v32, p9_keep_v32]
  exact p8_v32 (V7_v11 m c) ((V7_v12 m c).trans (by rw [V7_v11]))

/-- The table of each item's row tile. -/
theorem V_tile : V m c main_v48 = Cert.Plan.vTile sides (m ((c : Thread nD τ).loc main_arg1)) := by
  rw [V_eq, p11_keep_v48, p10_keep_v48, p9_keep_v48]
  exact p8_v48 (V7_v11 m c) ((V7_v12 m c).trans (by rw [V7_v11])) (V7_v2 m c)

/-- The table of each item's first row. -/
theorem V_lo : V m c main_v56 = Cert.Plan.vLo sides (m ((c : Thread nD τ).loc main_arg1)) := by
  rw [V_eq, p11_keep_v56, p10_keep_v56]
  exact p9_v56 (p8_v21 (V7_v11 m c) ((V7_v12 m c).trans (by rw [V7_v11]))) (p8_v55 (V7_v11 m c) ((V7_v12 m c).trans (by rw [V7_v11])) (V7_v1 m c)) p8_c13

/-- The table of the row past each item's last. -/
theorem V_hi : V m c main_v64 = Cert.Plan.vHi sides (m ((c : Thread nD τ).loc main_arg1)) := by
  rw [V_eq]
  refine p11_v64 ?_ (p10_v63 ?_ ?_) p10_c16
  · rw [p10_keep_v21, p9_keep_v21]; exact p8_v21 (V7_v11 m c) ((V7_v12 m c).trans (by rw [V7_v11]))
  · rw [p9_keep_v32]; exact p8_v32 (V7_v11 m c) ((V7_v12 m c).trans (by rw [V7_v11]))
  · rw [p9_keep_v0, p8_v0]; exact V7_v0 m c

end Cert.KernelIdeal.Run
-- ==== Proof.KernelIdeal.Admissible.lean ====
/- The prefetched tables at group sizes the precondition admits, and that they keep every block inside its array. -/
module

public import proofs.«01_k».proof.Proof.KernelIdeal.Tables
public import proofs.«01_k».proof.Proof.Pre

@[expose] public section

noncomputable section

namespace Cert.KernelIdeal.Run

open Cert.KernelIdeal Cert.KernelIdeal.Gen Idealize.ShloMosaic Idealize.ShloMosaic.TcCoe Idealize.SL.Sem Idealize.ShloMosaic.ValueIdx Idealize.ShloMosaic.Routing

variable {F : FTy → Type} [FloatOps F]

variable (m : (ℓ : Loc nD τ sig) → Buf (Elt F) ℓ)

/-- The group sizes in memory. -/
abbrev groups : IVec (shape1 9) 32 := m (((0 : Dev nD) : Thread nD τ).loc main_arg1)

variable {m}

omit [FloatOps F] in
/-- A load of one table entry reads the entry. -/
theorem emb_first (j : Fin 24) (h : ∀ a, (![(Scalar.indexCast (BitVec.ofNat 32 j.val)).toNat] : Fin 1 → Nat) a + S1.size a ≤ S24.size a)
    (h1 : 0 < (Rect.unit (s := S24) ![(Scalar.indexCast (BitVec.ofNat 32 j.val)).toNat] S1.size h).shape.numel) :
    (Rect.unit (s := S24) ![(Scalar.indexCast (BitVec.ofNat 32 j.val)).toNat] S1.size h).emb (Shape.Idx.first h1) = ix1 j := by
  funext a
  obtain rfl : a = 0 := Subsingleton.elim _ _
  have hb : ∀ k : Fin 24, (Scalar.indexCast (BitVec.ofNat 32 k.val)).toNat = k.val := by decide
  have hz : (Shape.Idx.first h1 0).val = 0 := Nat.lt_one_iff.1 (Shape.Idx.first h1 0).isLt
  refine Fin.ext ?_
  show (Scalar.indexCast (BitVec.ofNat 32 j.val)).toNat + 1 * (Shape.Idx.first h1 0).val = j.val
  rw [hz, hb, Nat.mul_zero, Nat.add_zero]

omit [FloatOps F] in
/-- The column block's word. -/
theorem col_word (i : grid0.Coords) : (BitVec.ofNat 32 (i 0).val).toNat = (i 0).val :=
  (by decide : ∀ k : Fin 4, (BitVec.ofNat 32 k.val).toNat = k.val) (i 0)

section

variable (hp : Cert.Pre.Sized (groups m))

include hp

/-- The table of experts. -/
theorem tbl_grp (i : Fin 24) : tbl m 0 (ix1 i) = BitVec.ofNat 32 (WorkList.grp (Cert.Pre.size (groups m)) i.val) :=
  (congrFun (V_grp m 0) (ix1 i)).trans (Cert.Plan.vGrp_at hp.word hp.sum i)

/-- The table of tiles. -/
theorem tbl_tile (i : Fin 24) : tbl m 1 (ix1 i) = BitVec.ofNat 32 (WorkList.tile (Cert.Pre.size (groups m)) i.val) :=
  (congrFun (V_tile m 0) (ix1 i)).trans (Cert.Plan.vTile_at hp.word hp.sum i)

/-- The table of first rows. -/
theorem tbl_lo (i : Fin 24) : tbl m 2 (ix1 i) = BitVec.ofNat 32 (WorkList.lo (Cert.Pre.size (groups m)) i.val) :=
  (congrFun (V_lo m 0) (ix1 i)).trans (Cert.Plan.vLo_at hp.word hp.sum i)

/-- The table of last rows. -/
theorem tbl_hi (i : Fin 24) : tbl m 3 (ix1 i) = BitVec.ofNat 32 (WorkList.hi (Cert.Pre.size (groups m)) i.val) :=
  (congrFun (V_hi m 0) (ix1 i)).trans (Cert.Plan.vHi_at hp.word hp.sum i)

/-- What an index map reads of the table of experts at a grid point. -/
theorem at_grp (i : grid0.Coords) :
    BitVec.toNat (Pipeline.Prefetch.Contents.at (tbl m) 0 (Rect.unit (s := S24) ![(Scalar.indexCast (BitVec.ofNat 32 (i 1).val)).toNat] S1.size (Facts₀.k0_off1_inb i)) Facts₀.numel1_S1)
      = WorkList.grp (Cert.Pre.size (groups m)) (i 1).val := by
  have h := tbl_grp hp (i 1)
  have hle := (WorkList.grp_spec _ hp.sum (i 1).val).1
  refine (congrArg (fun k => BitVec.toNat (tbl m 0 k)) (emb_first (i 1) _ _)).trans ((congrArg BitVec.toNat h).trans ?_)
  rw [BitVec.toNat_ofNat, Nat.mod_eq_of_lt (by omega)]

/-- What an index map reads of the table of tiles at a grid point. -/
theorem at_tile (i : grid0.Coords) :
    BitVec.toNat (Pipeline.Prefetch.Contents.at (tbl m) 1 (Rect.unit (s := S24) ![(Scalar.indexCast (BitVec.ofNat 32 (i 1).val)).toNat] S1.size (Facts₀.k0_off1_inb i)) Facts₀.numel1_S1)
      = WorkList.tile (Cert.Pre.size (groups m)) (i 1).val := by
  have h := tbl_tile hp (i 1)
  have hle := (WorkList.tile_bounds _ hp.sum (i 1).val).2.2
  refine (congrArg (fun k => BitVec.toNat (tbl m 1 k)) (emb_first (i 1) _ _)).trans ((congrArg BitVec.toNat h).trans ?_)
  rw [BitVec.toNat_ofNat, Nat.mod_eq_of_lt (by omega)]

/-- The block index of the activations. -/
theorem transform_0 (i : grid0.Coords) :
    cc0_transform_0 Facts₀.k0_off1_inb Facts₀.numel1_S1 (tbl m) i = ![WorkList.tile (Cert.Pre.size (groups m)) (i 1).val, 0] :=
  congrArg (fun k => ![k, 0]) (at_tile hp i)

/-- The block index of the weights. -/
theorem transform_1 (i : grid0.Coords) :
    cc0_transform_1 Facts₀.k0_off1_inb Facts₀.numel1_S1 (tbl m) i = ![WorkList.grp (Cert.Pre.size (groups m)) (i 1).val, 0, (i 0).val] :=
  (congrArg (fun k => ![k, 0, (BitVec.ofNat 32 (i 0).val).toNat]) (at_grp hp i)).trans (congrArg (fun k => ![WorkList.grp (Cert.Pre.size (groups m)) (i 1).val, 0, k]) (col_word i))

/-- The block index of the scale codes. -/
theorem transform_2 (i : grid0.Coords) :
    cc0_transform_2 Facts₀.k0_off1_inb Facts₀.numel1_S1 (tbl m) i = ![WorkList.grp (Cert.Pre.size (groups m)) (i 1).val, 0, (i 0).val] :=
  (congrArg (fun k => ![k, 0, (BitVec.ofNat 32 (i 0).val).toNat]) (at_grp hp i)).trans (congrArg (fun k => ![WorkList.grp (Cert.Pre.size (groups m)) (i 1).val, 0, k]) (col_word i))

/-- The block index of the result. -/
theorem transform_3 (i : grid0.Coords) :
    cc0_transform_3 Facts₀.k0_off1_inb Facts₀.numel1_S1 (tbl m) i = ![WorkList.tile (Cert.Pre.size (groups m)) (i 1).val, (i 0).val] :=
  (congrArg (fun k => ![k, (BitVec.ofNat 32 (i 0).val).toNat]) (at_tile hp i)).trans (congrArg (fun k => ![WorkList.tile (Cert.Pre.size (groups m)) (i 1).val, k]) (col_word i))

/-- Every block the tables name is inside its array, and its ends fall on whole words. -/
theorem ok_of_sized : Ok m := by
  have hg : ∀ i : grid0.Coords, WorkList.grp (Cert.Pre.size (groups m)) (i 1).val ≤ 8 := fun i => (WorkList.grp_spec _ hp.sum (i 1).val).1
  have ht : ∀ i : grid0.Coords, WorkList.tile (Cert.Pre.size (groups m)) (i 1).val ≤ 15 := fun i => (WorkList.tile_bounds _ hp.sum (i 1).val).2.2
  have hn : ∀ i : grid0.Coords, (i 0).val < 4 := fun i => (i 0).isLt
  refine ⟨fun i => ⟨?_, .inr ?_⟩, fun i => ⟨?_, .inr ?_⟩, fun i => ⟨?_, .inr ?_⟩, fun i => ⟨?_, .inr ?_⟩⟩
  · rw [transform_0 hp]
    have := ht i
    intro a
    match a with
    | 0 => show (WorkList.tile (Cert.Pre.size (groups m)) (i 1).val + 1) * 256 ≤ 4096; omega
    | 1 => show (0 + 1) * 7168 ≤ 7168; omega
  · refine Affine.words_of_packed (Affine.packed_dvd (by decide) ?_ ?_)
    · exact Dvd.dvd.mul_left (by decide : 2 ∣ 256) _
    · decide
  · rw [transform_1 hp]
    have := hg i
    have := hn i
    intro a
    match a with
    | 0 => show (WorkList.grp (Cert.Pre.size (groups m)) (i 1).val + 1) * 1 ≤ 9; omega
    | 1 => show (0 + 1) * 7168 ≤ 7168; omega
    | 2 => show ((i 0).val + 1) * 512 ≤ 2048; omega
  · refine Affine.words_rows (by decide) ?_ ?_
    · exact Nat.zero_mul 7168
    · rfl
  · rw [transform_2 hp]
    have := hg i
    have := hn i
    intro a
    match a with
    | 0 => show (WorkList.grp (Cert.Pre.size (groups m)) (i 1).val + 1) * 1 ≤ 9; omega
    | 1 => show (0 + 1) * 224 ≤ 224; omega
    | 2 => show ((i 0).val + 1) * 512 ≤ 2048; omega
  · refine Affine.words_rows (by decide) ?_ ?_
    · exact Nat.zero_mul 224
    · rfl
  · rw [transform_3 hp]
    have := ht i
    have := hn i
    intro a
    match a with
    | 0 => show (WorkList.tile (Cert.Pre.size (groups m)) (i 1).val + 1) * 256 ≤ 4096; omega
    | 1 => show ((i 0).val + 1) * 512 ≤ 2048; omega
  · refine Affine.words_of_packed (Affine.packed_dvd (by decide) ?_ ?_)
    · exact Dvd.dvd.mul_left (by decide : 2 ∣ 256) _
    · decide

end

end Cert.KernelIdeal.Run

end
-- ==== Proof.KernelIdeal.RunA.lean ====
/- The body of the idealised kernel at a point that dequantises a weight block. -/
module

public import proofs.«01_k».proof.Proof.KernelIdeal.Runs

@[expose] public section

-- membership in a rectangle of production extents (`View.cover_of_tiled`): the elaborator's structural look
-- recurses once per coordinate of the long axes
set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points all): on whole staging memrefs — the inputs' at their contents,
    the FORGOTTEN outputs' (3) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_A (c : Dev nD) (i : grid0.Coords) (arg6 : Memref sig .tc .vmem S256x7168 .bf16) (harg6 : arg6.IsWhole) (arg7 : Memref sig .tc .vmem S1x7168x512 .fp8e4m3) (harg7 : arg7.IsWhole) (arg8 : Memref sig .tc .vmem S1x224x512 .i8) (harg8 : arg8.IsWhole) (arg9 : Memref sig .tc .vmem S256x512 .bf16) (harg9 : arg9.IsWhole) (arg10 : Memref sig .tc .vmem S7168x512 .bf16) (harg10 : arg10.IsWhole)
    (x0 : Vec F S256x7168 .bf16) (x1 : Vec F S1x7168x512 .fp8e4m3) (x2 : Vec F S1x224x512 .i8) (xt0 : TbBuf0 (F := F) c tbM0_0) (xt1 : TbBuf0 (F := F) c tbM0_1) (xt2 : TbBuf0 (F := F) c tbM0_2) (xt3 : TbBuf0 (F := F) c tbM0_3) (hc0 : cond0_0 i (tbM0_0.view.readAt (Elt F) (Rect.unit (s := S24) (k0_off1 i) S1.size (k0_off1_inb i)).toLoadRect xt0 (Shape.Idx.first (numel1_S1.symm ▸ Nat.one_pos))) (tbM0_0.view.readAt (Elt F) (Rect.unit (s := S24) (k0_off2 i) S1.size (k0_off2_inb i)).toLoadRect xt0 (Shape.Idx.first (numel1_S1.symm ▸ Nat.one_pos)))) :
      ∀ (E : Set ℕ) (K : PUnit → sProp 𝕄),
        iprop(owns (c : Thread nD τ) arg6 fullShare x0 ∗ owns (c : Thread nD τ) arg7 fullShare x1 ∗ owns (c : Thread nD τ) arg8 fullShare x2 ∗ (∃ d, owns (c : Thread nD τ) arg9 fullShare d) ∗ (∃ d, owns (c : Thread nD τ) arg10 fullShare d) ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ (∃ d, owns (c : Thread nD τ) arg9 fullShare d) ∗ (∃ d, owns (c : Thread nD τ) arg10 fullShare d) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped_matmul i tbM0_0 htbM0_0 tbM0_1 htbM0_1 tbM0_2 htbM0_2 tbM0_3 htbM0_3 arg6 harg6 arg7 harg7 arg8 harg8 arg9 harg9 arg10 harg10) K := by
    intro E K
    simp only [cc0_grouped_matmul_eq_skeleton]; unfold cc0_grouped_matmul_skel
    unfold owns
    iintro ⟨⟨%f0, %hf0, H0⟩, ⟨%f1, %hf1, H1⟩, ⟨%f2, %hf2, H2⟩, ⟨%d3, %f3, -, H3⟩, ⟨%ds0, %fs0, -, HS0⟩, HT0, HT1, HT2, HT3, Hk⟩
    obtain rfl := harg6.eq_unread hf0; obtain rfl := harg7.eq_unread hf1; obtain rfl := harg8.eq_unread hf2
    sl_exec (disch := first | sl_exact hc0)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _, _; isplitr; swap; · iexact H3
      ipureintro; rfl
    isplitl [HS0]
    · iexists _, _; isplitr; swap; · iexact HS0
      ipureintro; rfl
    isplitl [HT0]; · iexact HT0
    isplitl [HT1]; · iexact HT1
    isplitl [HT2]; · iexact HT2
    iexact HT3

end Cert.KernelIdeal.Run

end
-- ==== Proof.KernelIdeal.RunB.lean ====
/- The body of the idealised kernel at a point that keeps the weight block of the point before. -/
module

public import proofs.«01_k».proof.Proof.KernelIdeal.RunA

@[expose] public section

-- membership in a rectangle of production extents (`View.cover_of_tiled`): the elaborator's structural look
-- recurses once per coordinate of the long axes
set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points all): on whole staging memrefs — the inputs' at their contents,
    the FORGOTTEN outputs' (3) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_B (c : Dev nD) (i : grid0.Coords) (arg6 : Memref sig .tc .vmem S256x7168 .bf16) (harg6 : arg6.IsWhole) (arg7 : Memref sig .tc .vmem S1x7168x512 .fp8e4m3) (harg7 : arg7.IsWhole) (arg8 : Memref sig .tc .vmem S1x224x512 .i8) (harg8 : arg8.IsWhole) (arg9 : Memref sig .tc .vmem S256x512 .bf16) (harg9 : arg9.IsWhole) (arg10 : Memref sig .tc .vmem S7168x512 .bf16) (harg10 : arg10.IsWhole)
    (x0 : Vec F S256x7168 .bf16) (x1 : Vec F S1x7168x512 .fp8e4m3) (x2 : Vec F S1x224x512 .i8) (xt0 : TbBuf0 (F := F) c tbM0_0) (xt1 : TbBuf0 (F := F) c tbM0_1) (xt2 : TbBuf0 (F := F) c tbM0_2) (xt3 : TbBuf0 (F := F) c tbM0_3) (hc0 : ¬cond0_0 i (tbM0_0.view.readAt (Elt F) (Rect.unit (s := S24) (k0_off1 i) S1.size (k0_off1_inb i)).toLoadRect xt0 (Shape.Idx.first (numel1_S1.symm ▸ Nat.one_pos))) (tbM0_0.view.readAt (Elt F) (Rect.unit (s := S24) (k0_off2 i) S1.size (k0_off2_inb i)).toLoadRect xt0 (Shape.Idx.first (numel1_S1.symm ▸ Nat.one_pos)))) :
      ∀ (E : Set ℕ) (K : PUnit → sProp 𝕄),
        iprop(owns (c : Thread nD τ) arg6 fullShare x0 ∗ owns (c : Thread nD τ) arg7 fullShare x1 ∗ owns (c : Thread nD τ) arg8 fullShare x2 ∗ (∃ d, owns (c : Thread nD τ) arg9 fullShare d) ∗ (∃ d, owns (c : Thread nD τ) arg10 fullShare d) ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ (∃ d, owns (c : Thread nD τ) arg9 fullShare d) ∗ (∃ d, owns (c : Thread nD τ) arg10 fullShare d) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped_matmul i tbM0_0 htbM0_0 tbM0_1 htbM0_1 tbM0_2 htbM0_2 tbM0_3 htbM0_3 arg6 harg6 arg7 harg7 arg8 harg8 arg9 harg9 arg10 harg10) K := by
    intro E K
    simp only [cc0_grouped_matmul_eq_skeleton]; unfold cc0_grouped_matmul_skel
    unfold owns
    iintro ⟨⟨%f0, %hf0, H0⟩, ⟨%f1, %hf1, H1⟩, ⟨%f2, %hf2, H2⟩, ⟨%d3, %f3, -, H3⟩, ⟨%ds0, %fs0, -, HS0⟩, HT0, HT1, HT2, HT3, Hk⟩
    obtain rfl := harg6.eq_unread hf0; obtain rfl := harg7.eq_unread hf1; obtain rfl := harg8.eq_unread hf2
    sl_exec (disch := first | sl_exact hc0)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _, _; isplitr; swap; · iexact H3
      ipureintro; rfl
    isplitl [HS0]
    · iexists _, _; isplitr; swap; · iexact HS0
      ipureintro; rfl
    isplitl [HT0]; · iexact HT0
    isplitl [HT1]; · iexact HT1
    isplitl [HT2]; · iexact HT2
    iexact HT3

end Cert.KernelIdeal.Run

end
-- ==== Proof.KernelIdeal.Frame.lean ====
/- The frame of the idealised kernel, for tables whose blocks lie inside their arrays. -/
module

public import proofs.«01_k».proof.Proof.KernelIdeal.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3): nothing reads what the kernel leaves in them, so nothing
    of it is named (Lib/Pipeline/Dat.lean `Dat.toRForget`). -/
def forgets0 : Fin 4 → Bool := fun w => w.val == 3

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ (∃ d, owns (c : Thread nD τ) (ms0_3 m hO t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq, PhiA0_eq]
  by_cases h0 : cond0_0 (grid0.coords t) (tbM0_0.view.readAt (Elt F) (Rect.unit (s := S24) (k0_off1 (grid0.coords t)) S1.size (k0_off1_inb (grid0.coords t))).toLoadRect (tbl m 0) (Shape.Idx.first (numel1_S1.symm ▸ Nat.one_pos))) (tbM0_0.view.readAt (Elt F) (Rect.unit (s := S24) (k0_off2 (grid0.coords t)) S1.size (k0_off2_inb (grid0.coords t))).toLoadRect (tbl m 0) (Shape.Idx.first (numel1_S1.symm ▸ Nat.one_pos)))
  · iintro ⟨⟨⟨HS0, Hg⟩, ⟨HT0, HT1, HT2, HT3⟩⟩, Ho, ⟨%d0, H0⟩, ⟨%d1, H1⟩, ⟨%d2, H2⟩, ⟨%d3, H3⟩⟩
    iapply ((kernelRun0_A c (grid0.coords t) _ _ _ _ _ _ _ _ _ _ (iblk m hO c 0 t) (iblk m hO c 1 t) (iblk m hO c 2 t) (tbl m 0) (tbl m 1) (tbl m 2) (tbl m 3) h0) Set.univ _)
    isplitl [H0]; · iexact H0
    isplitl [H1]; · iexact H1
    isplitl [H2]; · iexact H2
    isplitl [H3]; · iexists _; iexact H3
    isplitl [HS0]; · iexact HS0
    isplitl [HT0]; · iexact HT0
    isplitl [HT1]; · iexact HT1
    isplitl [HT2]; · iexact HT2
    isplitl [HT3]; · iexact HT3
    iintro ⟨H0, H1, H2, H3, HS0, HT0, HT1, HT2, HT3⟩
    isplitl [HS0 Hg HT0 HT1 HT2 HT3]
    · isplitl [HS0 Hg]
      · isplitl [HS0]
        · iexact HS0
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    iexact H3
  · iintro ⟨⟨⟨HS0, Hg⟩, ⟨HT0, HT1, HT2, HT3⟩⟩, Ho, ⟨%d0, H0⟩, ⟨%d1, H1⟩, ⟨%d2, H2⟩, ⟨%d3, H3⟩⟩
    iapply ((kernelRun0_B c (grid0.coords t) _ _ _ _ _ _ _ _ _ _ (iblk m hO c 0 t) (iblk m hO c 1 t) (iblk m hO c 2 t) (tbl m 0) (tbl m 1) (tbl m 2) (tbl m 3) h0) Set.univ _)
    isplitl [H0]; · iexact H0
    isplitl [H1]; · iexact H1
    isplitl [H2]; · iexact H2
    isplitl [H3]; · iexists _; iexact H3
    isplitl [HS0]; · iexact HS0
    isplitl [HT0]; · iexact HT0
    isplitl [HT1]; · iexact HT1
    isplitl [HT2]; · iexact HT2
    isplitl [HT3]; · iexact HT3
    iintro ⟨H0, H1, H2, H3, HS0, HT0, HT1, HT2, HT3⟩
    isplitl [HS0 Hg HT0 HT1 HT2 HT3]
    · isplitl [HS0 Hg]
      · isplitl [HS0]
        · iexact HS0
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    iexact H3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
set_option maxHeartbeats 4000000 in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 3) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => (dats m hO 0 c).toRForget forgets0) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.KernelIdeal.Run

end
-- ==== Proof.PreValid.lean ====
/- What the precondition `valid` says: the group sizes sum to 4096, and every scale code lies between 1 and 254. -/
module

public import proofs.«01_k».proof.Proof.Pre
public import proofs.«01_k».proof.Pre_valid
public import Idealize.ShloMosaic.Lib.Pointwise

@[expose] public section

namespace Cert.Pre

open Idealize.ShloMosaic Idealize.ShloMosaic.WordCmp Idealize.ShloMosaic.Routing

/-- The side conditions of `valid`. -/
instance valid_facts : Cert.Pre_valid.Facts where
  bcast_S_S9x224x2048 := by decide
  bcast_S_S9 := by decide
  reducesTo_S9_S_d0 := by decide
  h_S_ := by decide
  bcast_S9_S9x1x1_0 := by decide
  bcast_S9x1x1_S9x224x2048_0_1_2 := by decide

/-- `valid`, read. -/
theorem of_valid {F : FTy → Type} [FloatOps F] (x : FVec F Pre_valid.S4096x7168 .bf16) (g : IVec Pre_valid.S9 32)
    (w : FVec F Pre_valid.S9x7168x2048 .fp8e4m3) (sc : IVec Pre_valid.S9x224x2048 8)
    (h : Pre_valid.fn x g w sc = fun _ => 1#1) :
    Sized g ∧ ∀ (e : Fin 9) (b : Fin 224) (n : Fin 2048), 1 ≤ (sc (ix3 e b n)).toNat ∧ (sc (ix3 e b n)).toNat ≤ 254 := by
  have hi : ∀ (e : Fin 9) (b : Fin 224) (n : Fin 2048), _ := fun e b n => congrFun h (ix3 e b n)
  refine ⟨?_, fun e b n => ?_⟩
  · have hs : Pre_sized.fn x g w sc = fun _ => 1#1 := by
      funext j
      obtain ⟨e, rfl⟩ : ∃ e : Fin 9, j = ix1 e := ⟨j 0, ValueIdx.eq_ix1 j⟩
      refine Eq.trans ?_ (andi_one (hi e 0 0)).1
      pointwise [Pre_sized.fn]
    exact of_sized x g w sc hs
  · have h1 := (andi_one (andi_one (hi e b n)).2).1
    have h2 := (andi_one (andi_one (hi e b n)).2).2
    change IntOp.cmpi .uge (sc (ix3 e b n)) 1#8 = 1#1 at h1
    change IntOp.cmpi .ule (sc (ix3 e b n)) 254#8 = 1#1 at h2
    revert h1 h2
    generalize sc (ix3 e b n) = s
    revert s
    decide

end Cert.Pre
-- ==== Proof.KernelIdeal.Blocks.lean ====
/- The blocks the kernel's windows hold at a grid point, read off the arrays. -/
module

public import proofs.«01_k».proof.Proof.KernelIdeal.Runs
public import proofs.«01_k».proof.Proof.KernelIdeal.Admissible
public import Idealize.ShloMosaic.Lib.Pointwise

@[expose] public section

noncomputable section

namespace Cert.KernelIdeal.Run

open Cert.KernelIdeal Cert.KernelIdeal.Gen Idealize.ShloMosaic Idealize.ShloMosaic.TcCoe Idealize.SL.Sem Idealize.ShloMosaic.Routing

variable {F : FTy → Type} [FloatOps F]

variable {m : (ℓ : Loc nD τ sig) → Buf (Elt F) ℓ}

/-- The column block of a point. -/
abbrev colOf (t : Fin grid0.N) : Fin 4 := grid0.coords t 0
/-- The item of a point. -/
abbrev itemOf (t : Fin grid0.N) : Fin 24 := grid0.coords t 1

theorem coords_eq : ∀ t : Fin grid0.N, t.val = 24 * (colOf t).val + (itemOf t).val := by decide +kernel

variable (hp : Cert.Pre.Sized (groups m))

/-- The expert of an item. -/
def gOf (hp : Cert.Pre.Sized (groups m)) (i : Fin 24) : Fin 9 :=
  ⟨WorkList.grp (Cert.Pre.size (groups m)) i.val, Nat.lt_succ_of_le (WorkList.grp_spec _ hp.sum i.val).1⟩

/-- A row of an item's tile. -/
def rowOf (hp : Cert.Pre.Sized (groups m)) (i : Fin 24) (r : Fin 256) : Fin 4096 :=
  ⟨256 * WorkList.tile (Cert.Pre.size (groups m)) i.val + r.val, by
    have := (WorkList.tile_bounds _ hp.sum i.val).2.2
    have := r.isLt
    omega⟩

/-- A column of a column block. -/
def colAt (n : Fin 4) (c : Fin 512) : Fin 2048 := ⟨512 * n.val + c.val, by have := n.isLt; have := c.isLt; omega⟩

include hp

/-- A read of the activations through a point's block. -/
theorem read0_at (hO : Ok m) (t : Fin (cfgM m hO).N) (v : Vec F S4096x7168 .bf16) (r : Fin 256) (k : Fin 7168) :
    ((((cfgM m hO).win 0).blk t).view.read (Elt F) v : Vec F S256x7168 .bf16) (ix2 r k) = v (ix2 (rowOf hp (itemOf t) r) k) := by
  refine congrArg v (funext fun (a : Fin 2) => Fin.ext ?_)
  have h := congrFun (transform_0 hp (grid0.coords t)) a
  refine (congrArg (fun z : Nat => z * S256x7168.size a + 1 * (ix2 r k a).val) h).trans ?_
  clear h
  revert a
  refine Fin.forall_fin_two.2 ⟨?_, ?_⟩
  · show WorkList.tile (Cert.Pre.size (groups m)) (itemOf t).val * 256 + 1 * r.val = 256 * WorkList.tile (Cert.Pre.size (groups m)) (itemOf t).val + r.val; omega
  · show 0 * 7168 + 1 * k.val = k.val; omega

/-- The activations' block. -/
theorem iblk0_at (hO : Ok m) (c : Dev nD) (t : Fin (cfgM m hO).N) (r : Fin 256) (k : Fin 7168) :
    (iblk m hO c 0 t : Vec F S256x7168 .bf16) (ix2 r k) = (m ((c : Thread nD τ).loc main_arg0) : Vec F S4096x7168 .bf16) (ix2 (rowOf hp (itemOf t) r) k) :=
  (read0_at hp hO t (V m c main_arg0) _ _).trans (congrFun (V_main_arg0 m c) _)

/-- A read of the weights through a point's block. -/
theorem read1_at (hO : Ok m) (t : Fin (cfgM m hO).N) (v : Vec F S9x7168x2048 .fp8e4m3) (k : Fin 7168) (n : Fin 512) :
    ((((cfgM m hO).win 1).blk t).view.read (Elt F) v : Vec F S1x7168x512 .fp8e4m3) (ix3 (0 : Fin 1) k n) = v (ix3 (gOf hp (itemOf t)) k (colAt (colOf t) n)) := by
  refine congrArg v (funext fun (a : Fin 3) => Fin.ext ?_)
  have h := congrFun (transform_1 hp (grid0.coords t)) a
  refine (congrArg (fun z : Nat => z * S1x7168x512.size a + 1 * (ix3 (0 : Fin 1) k n a).val) h).trans ?_
  clear h
  match a with
  | 0 => show WorkList.grp (Cert.Pre.size (groups m)) (itemOf t).val * 1 + 1 * 0 = WorkList.grp (Cert.Pre.size (groups m)) (itemOf t).val; omega
  | 1 => show 0 * 7168 + 1 * k.val = k.val; omega
  | 2 => show (colOf t).val * 512 + 1 * n.val = 512 * (colOf t).val + n.val; omega

/-- The weights' block. -/
theorem iblk1_at (hO : Ok m) (c : Dev nD) (t : Fin (cfgM m hO).N) (k : Fin 7168) (n : Fin 512) :
    (iblk m hO c 1 t : Vec F S1x7168x512 .fp8e4m3) (ix3 (0 : Fin 1) k n) = (m ((c : Thread nD τ).loc main_arg2) : Vec F S9x7168x2048 .fp8e4m3) (ix3 (gOf hp (itemOf t)) k (colAt (colOf t) n)) :=
  (read1_at hp hO t (V m c main_arg2) _ _).trans (congrFun (V_main_arg2 m c) _)

/-- A read of the scale codes through a point's block. -/
theorem read2_at (hO : Ok m) (t : Fin (cfgM m hO).N) (v : Vec F S9x224x2048 .i8) (b : Fin 224) (n : Fin 512) :
    ((((cfgM m hO).win 2).blk t).view.read (Elt F) v : Vec F S1x224x512 .i8) (ix3 (0 : Fin 1) b n) = v (ix3 (gOf hp (itemOf t)) b (colAt (colOf t) n)) := by
  refine congrArg v (funext fun (a : Fin 3) => Fin.ext ?_)
  have h := congrFun (transform_2 hp (grid0.coords t)) a
  refine (congrArg (fun z : Nat => z * S1x224x512.size a + 1 * (ix3 (0 : Fin 1) b n a).val) h).trans ?_
  clear h
  match a with
  | 0 => show WorkList.grp (Cert.Pre.size (groups m)) (itemOf t).val * 1 + 1 * 0 = WorkList.grp (Cert.Pre.size (groups m)) (itemOf t).val; omega
  | 1 => show 0 * 224 + 1 * b.val = b.val; omega
  | 2 => show (colOf t).val * 512 + 1 * n.val = 512 * (colOf t).val + n.val; omega

/-- The scale codes' block. -/
theorem iblk2_at (hO : Ok m) (c : Dev nD) (t : Fin (cfgM m hO).N) (b : Fin 224) (n : Fin 512) :
    (iblk m hO c 2 t : Vec F S1x224x512 .i8) (ix3 (0 : Fin 1) b n) = (m ((c : Thread nD τ).loc main_arg3) : Vec F S9x224x2048 .i8) (ix3 (gOf hp (itemOf t)) b (colAt (colOf t) n)) :=
  (read2_at hp hO t (V m c main_arg3) _ _).trans (congrFun (V_main_arg3 m c) _)

/-- The result's block at a point, in the result. -/
theorem oblk_at (hO : Ok m) (t : Fin (cfgM m hO).N) (v : Vec F S4096x2048 .bf16) (r : Fin 256) (n : Fin 512) :
    ((((cfgM m hO).win 3).blk t).view.read (Elt F) v : Vec F S256x512 .bf16) (ix2 r n) = v (ix2 (rowOf hp (itemOf t) r) (colAt (colOf t) n)) := by
  refine congrArg v (funext fun (a : Fin 2) => Fin.ext ?_)
  have h := congrFun (transform_3 hp (grid0.coords t)) a
  refine (congrArg (fun z : Nat => z * S256x512.size a + 1 * (ix2 r n a).val) h).trans ?_
  clear h
  revert a
  refine Fin.forall_fin_two.2 ⟨?_, ?_⟩
  · show WorkList.tile (Cert.Pre.size (groups m)) (itemOf t).val * 256 + 1 * r.val = 256 * WorkList.tile (Cert.Pre.size (groups m)) (itemOf t).val + r.val; omega
  · show (colOf t).val * 512 + 1 * n.val = 512 * (colOf t).val + n.val; omega

/-- The result's block index. -/
theorem index3 (hO : Ok m) (t : Fin (cfgM m hO).N) :
    ((cfgM m hO).win 3).index t = ![WorkList.tile (Cert.Pre.size (groups m)) (itemOf t).val, (colOf t).val] := transform_3 hp (grid0.coords t)

omit hp

omit [FloatOps F] in
/-- The word the body reads of a table. -/
theorem word1_at (i : grid0.Coords) (xt : S24.Idx → BitVec 32) :
    (tbM0_0.view.readAt (Elt F) (Rect.unit (s := S24) (k0_off1 i) S1.size (k0_off1_inb i)).toLoadRect xt (Shape.Idx.first (numel1_S1.symm ▸ Nat.one_pos))) = xt (ValueIdx.ix1 (i 1)) :=
  congrArg xt (emb_first (i 1) _ _)

theorem prev_word : ∀ i : Fin 24, i.val ≠ 0 → (Scalar.indexCast (Scalar.maxsi (Scalar.subi (BitVec.ofNat 32 i.val) 1#32) 0#32)).toNat = i.val - 1 := by decide +kernel

theorem prev_coords : ∀ t : Fin grid0.N, (itemOf t).val ≠ 0 → t.val ≠ 0
    ∧ colOf ⟨t.val - 1, Nat.lt_of_le_of_lt (Nat.sub_le _ _) t.isLt⟩ = colOf t
    ∧ (itemOf ⟨t.val - 1, Nat.lt_of_le_of_lt (Nat.sub_le _ _) t.isLt⟩).val + 1 = (itemOf t).val := by decide +kernel

theorem next_coords : ∀ (t : Fin grid0.N) (h : t.val + 1 < grid0.N), (itemOf t).val ≠ 23 →
    colOf ⟨t.val + 1, h⟩ = colOf t ∧ (itemOf ⟨t.val + 1, h⟩).val = (itemOf t).val + 1 := by decide +kernel

theorem last_coords : ∀ (t : Fin grid0.N) (h : t.val + 1 < grid0.N), (itemOf t).val = 23 →
    colOf ⟨t.val + 1, h⟩ ≠ colOf t := by decide +kernel

theorem point_at : ∀ (n : Fin 4) (i : Fin 24), ∃ t : Fin grid0.N, colOf t = n ∧ itemOf t = i := by decide +kernel

omit [FloatOps F] in
/-- The word the body reads of the item before. -/
theorem word2_at (i : grid0.Coords) (h : (i 1).val ≠ 0) (xt : S24.Idx → BitVec 32) :
    (tbM0_0.view.readAt (Elt F) (Rect.unit (s := S24) (k0_off2 i) S1.size (k0_off2_inb i)).toLoadRect xt (Shape.Idx.first (numel1_S1.symm ▸ Nat.one_pos)))
      = xt (ValueIdx.ix1 (⟨(i 1).val - 1, Nat.lt_of_le_of_lt (Nat.sub_le _ _) (i 1).isLt⟩ : Fin 24)) := by
  refine congrArg xt (funext fun (a : Fin 1) => Fin.ext ?_)
  obtain rfl : a = 0 := Subsingleton.elim _ _
  have hz : (Shape.Idx.first (s := S1) (numel1_S1.symm ▸ Nat.one_pos) 0).val = 0 := Nat.lt_one_iff.1 (Shape.Idx.first (s := S1) _ 0).isLt
  show (Scalar.indexCast (Scalar.maxsi (Scalar.subi (BitVec.ofNat 32 (i 1).val) 1#32) 0#32)).toNat + 1 * (Shape.Idx.first (s := S1) (numel1_S1.symm ▸ Nat.one_pos) 0).val = (i 1).val - 1
  rw [hz, prev_word (i 1) h, Nat.mul_zero, Nat.add_zero]

end Cert.KernelIdeal.Run

end
-- ==== Proof.KernelIdeal.Deq.lean ====
/- The dequantised weight block that the idealised kernel keeps in its buffer. -/
module

public import proofs.«01_k».proof.Proof.Gen.KernelIdeal.Loops
public import Idealize.ShloMosaic.Lib.BitcastPair
public import Idealize.ShloMosaic.Lib.ValueIdx
public import Idealize.ShloMosaic.Lib.Pointwise

@[expose] public section

set_option maxRecDepth 16384

noncomputable section

namespace Cert.KernelIdeal.Run

open Cert.KernelIdeal.Gen Idealize.ShloMosaic Idealize.ShloMosaic.TcCoe Idealize.ShloMosaic.Tactic

variable {F : FTy → Type} [FloatOps F]

/-- One dequantised weight: the weight times the number whose bits are the scale code in the exponent's place. -/
def wEl (w : Elt F .fp8e4m3) (s : BitVec 8) : Elt F .bf16 :=
  FloatOps.mulf (FloatOps.extf .bf16 bitsLt_fp8e4m3_bf16 w) (FloatOps.ofBits .bf16 (s.setWidth 16 <<< 7))

/-- Thirty-two rows of weights under the scale row `g` of a block of thirty-two. -/
def pay (g : Fin 32) (v41 : Vec F S1x32x512 .i8) (w : Vec F S1x32x512 .fp8e4m3) : FVec F S32x512 .bf16 :=
  fun x => wEl (w (ix3 0 (x 0) (x 1))) (v41 (ix3 0 g (x 1)))

/-- Either half of the word that holds the scale code twice. -/
theorem half_lo (s : BitVec 8) (p : Nat) (hp : p < 2) :
    (((s.setWidth 32 <<< 7) ||| (s.setWidth 32 <<< 23)).extractLsb' (16 * p) 16 : BitVec 16) = s.setWidth 16 <<< 7 := by
  have h : ∀ (s : BitVec 8) (p : Fin 2),
      (((s.setWidth 32 <<< 7) ||| (s.setWidth 32 <<< 23)).extractLsb' (16 * p.val) 16 : BitVec 16) = s.setWidth 16 <<< 7 := by
    decide +kernel
  exact h s ⟨p, hp⟩

/-- What one store of the loop holds. -/
theorem pay_of (g : Nat) (hg : g < 32) (v41 : Vec F S1x32x512 .i8) (w : Vec F S1x32x512 .fp8e4m3) (hs : S32x512.Slices ![g, 0] S1x512) :
    shapeCast S32x512 (mulf (extf .bf16 (shapeCast S32x512 w shapeCasts_S1x32x512_S32x512) bitsLt_fp8e4m3_bf16)
      (bitcastToFloat .bf16 (bitcast S32x512 16 (broadcastTo S16x512 (shapeCast S1x512 (extractStridedSlice S1x512 ![g, 0] (k0_pay3 (F := F) v41) hs) shapeCasts_S1x512_S1x512) broadcasts_S1x512_S16x512) bitcasts_S16x512_w32_S32x512_w16))) shapeCasts_S32x512_S32x512 = pay ⟨g, hg⟩ v41 w := by
  funext x
  obtain ⟨r, c, rfl⟩ : ∃ r c, x = ix2 r c := ⟨x 0, x 1, ValueIdx.eq_ix2 x⟩
  have e : bitcast S32x512 16 (broadcastTo S16x512 (shapeCast S1x512 (extractStridedSlice S1x512 ![g, 0] (k0_pay3 (F := F) v41) hs) shapeCasts_S1x512_S1x512) broadcasts_S1x512_S16x512) bitcasts_S16x512_w32_S32x512_w16 (ix2 r c)
      = (v41 (ix3 0 ⟨g, hg⟩ c) : BitVec 8).setWidth 16 <<< 7 := by
    rw [bitcast_32_16]
    have hq := Shape.Bitcasts.srcIdx_other bitcasts_S16x512_w32_S32x512_w16 (ix2 r c) (S32x512.row (ix2 r c) / 2) (fun a ha => by
        have := bitcasts_S16x512_w32_S32x512_w16.pos_lt (ix2 r c) 0 (by decide) a ha; omega) 1 (by decide)
    generalize Shape.Bitcasts.srcIdx _ _ _ _ = q at hq ⊢
    have hq1 : (q 1).val = c.val := hq
    obtain ⟨q0, q1, rfl⟩ : ∃ r c, q = ix2 r c := ⟨q 0, q 1, ValueIdx.eq_ix2 q⟩
    obtain rfl : q1 = c := Fin.ext hq1
    rw [← half_lo _ (S32x512.row (ix2 r q1) % 2) (by omega)]
    congr 1
    unfold k0_pay3
    pointwise
    rfl
  unfold pay wEl
  rw [shapeCast_self]
  show FloatOps.mulf (FloatOps.extf .bf16 _ _) (FloatOps.ofBits .bf16 _) = _
  rw [e]
  congr 2
  pointwise

/-- The store of group `g` in trip `k`. -/
def piece (a7 : Memref sig .tc .vmem S1x7168x512 .fp8e4m3) (a8 : Memref sig .tc .vmem S1x224x512 .i8) (X7 : BufTy.Contents (Elt F) a7.view.ty) (X8 : BufTy.Contents (Elt F) a8.view.ty)
    (k : Fin k0_t1_loop.trips) (g : Fin 32) : View.Piece (Elt F) S7168x512 .bf16 :=
  ⟨Rect.unit (s := S7168x512) (k0_off5 k (BitVec.ofNat 32 (32 * g.val))) ![32, 512] (k0_off5_inb k g),
    pay g (View.readAt (Elt F) a8.view (Rect.unit (s := S1x224x512) (k0_off3 k) ![1, 32, 512] (k0_off3_inb k)).toLoadRect X8)
      (View.readAt (Elt F) a7.view (Rect.unit (s := S1x7168x512) (k0_off4 k (BitVec.ofNat 32 (32 * g.val))) ![1, 32, 512] (k0_off4_inb k g)).toLoadRect X7)⟩

set_option maxHeartbeats 4000000 in
/-- The stores of trip `k`, last first. -/
theorem tripL_eq (𝒱 : Variants) (c : Dev nD) (bd : Option 𝒱.V) (i : grid0.Coords) (a2 : Memref sig .tc .smem S24 .i32) (h2 : a2.IsWhole) (a3 : Memref sig .tc .smem S24 .i32) (h3 : a3.IsWhole) (a4 : Memref sig .tc .smem S24 .i32) (h4 : a4.IsWhole) (a5 : Memref sig .tc .smem S24 .i32) (h5 : a5.IsWhole) (a6 : Memref sig .tc .vmem S256x7168 .bf16) (h6 : a6.IsWhole) (a7 : Memref sig .tc .vmem S1x7168x512 .fp8e4m3) (h7 : a7.IsWhole) (a8 : Memref sig .tc .vmem S1x224x512 .i8) (h8 : a8.IsWhole) (a9 : Memref sig .tc .vmem S256x512 .bf16) (h9 : a9.IsWhole) (a10 : Memref sig .tc .vmem S7168x512 .bf16) (h10 : a10.IsWhole) (X7 : BufTy.Contents (Elt F) a7.view.ty) (X8 : BufTy.Contents (Elt F) a8.view.ty) (k : Fin k0_t1_loop.trips) :
    tripL_k0_t1 (F := F) 𝒱 c bd i a2 h2 a3 h3 a4 h4 a5 h5 a6 h6 a7 h7 a8 h8 a9 h9 a10 h10 X7 X8 k = [31, 30, 29, 28, 27, 26, 25, 24, 23, 22, 21, 20, 19, 18, 17, 16, 15, 14, 13, 12, 11, 10, 9, 8, 7, 6, 5, 4, 3, 2, 1, 0].map (piece a7 a8 X7 X8 k) := by
  unfold tripL_k0_t1 trip_k0_t1
  simp only [List.map_cons, List.map_nil]
  refine congrArg₂ List.cons (congrArg (Sigma.mk _) (pay_of 31 (by decide) _ _ slices_S32x512_o31_0_S1x512)) ?_
  refine congrArg₂ List.cons (congrArg (Sigma.mk _) (pay_of 30 (by decide) _ _ slices_S32x512_o30_0_S1x512)) ?_
  refine congrArg₂ List.cons (congrArg (Sigma.mk _) (pay_of 29 (by decide) _ _ slices_S32x512_o29_0_S1x512)) ?_
  refine congrArg₂ List.cons (congrArg (Sigma.mk _) (pay_of 28 (by decide) _ _ slices_S32x512_o28_0_S1x512)) ?_
  refine congrArg₂ List.cons (congrArg (Sigma.mk _) (pay_of 27 (by decide) _ _ slices_S32x512_o27_0_S1x512)) ?_
  refine congrArg₂ List.cons (congrArg (Sigma.mk _) (pay_of 26 (by decide) _ _ slices_S32x512_o26_0_S1x512)) ?_
  refine congrArg₂ List.cons (congrArg (Sigma.mk _) (pay_of 25 (by decide) _ _ slices_S32x512_o25_0_S1x512)) ?_
  refine congrArg₂ List.cons (congrArg (Sigma.mk _) (pay_of 24 (by decide) _ _ slices_S32x512_o24_0_S1x512)) ?_
  refine congrArg₂ List.cons (congrArg (Sigma.mk _) (pay_of 23 (by decide) _ _ slices_S32x512_o23_0_S1x512)) ?_
  refine congrArg₂ List.cons (congrArg (Sigma.mk _) (pay_of 22 (by decide) _ _ slices_S32x512_o22_0_S1x512)) ?_
  refine congrArg₂ List.cons (congrArg (Sigma.mk _) (pay_of 21 (by decide) _ _ slices_S32x512_o21_0_S1x512)) ?_
  refine congrArg₂ List.cons (congrArg (Sigma.mk _) (pay_of 20 (by decide) _ _ slices_S32x512_o20_0_S1x512)) ?_
  refine congrArg₂ List.cons (congrArg (Sigma.mk _) (pay_of 19 (by decide) _ _ slices_S32x512_o19_0_S1x512)) ?_
  refine congrArg₂ List.cons (congrArg (Sigma.mk _) (pay_of 18 (by decide) _ _ slices_S32x512_o18_0_S1x512)) ?_
  refine congrArg₂ List.cons (congrArg (Sigma.mk _) (pay_of 17 (by decide) _ _ slices_S32x512_o17_0_S1x512)) ?_
  refine congrArg₂ List.cons (congrArg (Sigma.mk _) (pay_of 16 (by decide) _ _ slices_S32x512_o16_0_S1x512)) ?_
  refine congrArg₂ List.cons (congrArg (Sigma.mk _) (pay_of 15 (by decide) _ _ slices_S32x512_o15_0_S1x512)) ?_
  refine congrArg₂ List.cons (congrArg (Sigma.mk _) (pay_of 14 (by decide) _ _ slices_S32x512_o14_0_S1x512)) ?_
  refine congrArg₂ List.cons (congrArg (Sigma.mk _) (pay_of 13 (by decide) _ _ slices_S32x512_o13_0_S1x512)) ?_
  refine congrArg₂ List.cons (congrArg (Sigma.mk _) (pay_of 12 (by decide) _ _ slices_S32x512_o12_0_S1x512)) ?_
  refine congrArg₂ List.cons (congrArg (Sigma.mk _) (pay_of 11 (by decide) _ _ slices_S32x512_o11_0_S1x512)) ?_
  refine congrArg₂ List.cons (congrArg (Sigma.mk _) (pay_of 10 (by decide) _ _ slices_S32x512_o10_0_S1x512)) ?_
  refine congrArg₂ List.cons (congrArg (Sigma.mk _) (pay_of 9 (by decide) _ _ slices_S32x512_o9_0_S1x512)) ?_
  refine congrArg₂ List.cons (congrArg (Sigma.mk _) (pay_of 8 (by decide) _ _ slices_S32x512_o8_0_S1x512)) ?_
  refine congrArg₂ List.cons (congrArg (Sigma.mk _) (pay_of 7 (by decide) _ _ slices_S32x512_o7_0_S1x512)) ?_
  refine congrArg₂ List.cons (congrArg (Sigma.mk _) (pay_of 6 (by decide) _ _ slices_S32x512_o6_0_S1x512)) ?_
  refine congrArg₂ List.cons (congrArg (Sigma.mk _) (pay_of 5 (by decide) _ _ slices_S32x512_o5_0_S1x512)) ?_
  refine congrArg₂ List.cons (congrArg (Sigma.mk _) (pay_of 4 (by decide) _ _ slices_S32x512_o4_0_S1x512)) ?_
  refine congrArg₂ List.cons (congrArg (Sigma.mk _) (pay_of 3 (by decide) _ _ slices_S32x512_o3_0_S1x512)) ?_
  refine congrArg₂ List.cons (congrArg (Sigma.mk _) (pay_of 2 (by decide) _ _ slices_S32x512_o2_0_S1x512)) ?_
  refine congrArg₂ List.cons (congrArg (Sigma.mk _) (pay_of 1 (by decide) _ _ slices_S32x512_o1_0_S1x512)) ?_
  refine congrArg₂ List.cons (congrArg (Sigma.mk _) (pay_of 0 (by decide) _ _ slices_S32x512_o0_0_S1x512)) ?_
  rfl

/-- The dequantised block of a weight block and its scale codes: each weight under the code of its thirty-two rows. -/
def deq (x1 : Vec F S1x7168x512 .fp8e4m3) (x2 : Vec F S1x224x512 .i8) : Vec F S7168x512 .bf16 :=
  fun y => wEl (x1 (ix3 0 (y 0) (y 1))) (x2 (ix3 0 ⟨(y 0).val / 32, by have : (y 0).val < 7168 := (y 0).isLt; omega⟩ (y 1)))

theorem trips_eq : k0_t1_loop.trips = 7 := by decide +kernel

/-- A store holds the dequantised block's rows at its place. -/
theorem piece_val (a7 : Memref sig .tc .vmem S1x7168x512 .fp8e4m3) (a8 : Memref sig .tc .vmem S1x224x512 .i8) (X7 : BufTy.Contents (Elt F) a7.view.ty) (X8 : BufTy.Contents (Elt F) a8.view.ty)
    (k : Fin k0_t1_loop.trips) (g : Fin 32) (x : (piece a7 a8 X7 X8 k g).1.shape.Idx) :
    (piece a7 a8 X7 X8 k g).2 x = deq (a7.view.read (Elt F) X7) (a8.view.read (Elt F) X8) ((piece a7 a8 X7 X8 k g).1.emb x) := by
  have hk : k.val < 7 := Nat.lt_of_lt_of_le k.isLt (Nat.le_of_eq trips_eq)
  have hg := g.isLt
  have o5 := k0_off5_eq k g
  have o4 := k0_off4_eq k g
  have o3 := k0_off3_eq k
  have hx0 : (x 0).val < 32 := (x 0).isLt
  have hx1 : (x 1).val < 512 := (x 1).isLt
  unfold piece pay deq
  dsimp only
  have e0 : ((Rect.unit (s := S7168x512) (k0_off5 k (BitVec.ofNat 32 (32 * g.val))) ![32, 512] (k0_off5_inb k g)).emb x 0).val = 1024 * k.val + 32 * g.val + (x 0).val := by
    refine (Rect.emb_apply _ _ _).trans ((congrArg (_ + ·) (Nat.one_mul _)).trans ?_); exact congrArg (· + (x 0).val) (congrFun o5 0)
  have e1 : ((Rect.unit (s := S7168x512) (k0_off5 k (BitVec.ofNat 32 (32 * g.val))) ![32, 512] (k0_off5_inb k g)).emb x 1).val = (x 1).val := by
    refine (Rect.emb_apply _ _ _).trans ((congrArg (_ + ·) (Nat.one_mul _)).trans ?_); exact (congrArg (· + (x 1).val) (congrFun o5 1)).trans (Nat.zero_add _)
  refine congrArg₂ wEl ?_ ?_
  · refine congrArg (a7.view.read (Elt F) X7) (funext fun a => Fin.ext ?_)
    fin_cases a
    · rfl
    · refine Eq.trans ?_ e0.symm
      refine (Rect.emb_apply _ _ _).trans ?_
      refine (congrArg (_ + ·) (Nat.one_mul _)).trans ?_
      exact congrArg (· + (x 0).val) (congrFun o4 1)
    · refine Eq.trans ?_ e1.symm
      refine (Rect.emb_apply _ _ _).trans ?_
      refine (congrArg (_ + ·) (Nat.one_mul _)).trans ?_
      exact (congrArg (· + (x 1).val) (congrFun o4 2)).trans (Nat.zero_add _)
  · refine congrArg (a8.view.read (Elt F) X8) (funext fun a => Fin.ext ?_)
    fin_cases a
    · rfl
    · refine Eq.trans ?_ (show (1024 * k.val + 32 * g.val + (x 0).val) / 32 = _ from congrArg (· / 32) e0.symm)
      refine (Rect.emb_apply _ _ _).trans ?_
      refine (congrArg (_ + ·) (Nat.one_mul _)).trans ?_
      refine (congrArg (· + g.val) (congrFun o3 1)).trans ?_
      show 32 * k.val + g.val = _
      omega
    · refine Eq.trans ?_ e1.symm
      refine (Rect.emb_apply _ _ _).trans ?_
      refine (congrArg (_ + ·) (Nat.one_mul _)).trans ?_
      exact (congrArg (· + (x 1).val) (congrFun o3 2)).trans (Nat.zero_add _)

theorem pb_mem (𝒱 : Variants) (c : Dev nD) (bd : Option 𝒱.V) (i : grid0.Coords) (a2 : Memref sig .tc .smem S24 .i32) (h2 : a2.IsWhole) (a3 : Memref sig .tc .smem S24 .i32) (h3 : a3.IsWhole) (a4 : Memref sig .tc .smem S24 .i32) (h4 : a4.IsWhole) (a5 : Memref sig .tc .smem S24 .i32) (h5 : a5.IsWhole) (a6 : Memref sig .tc .vmem S256x7168 .bf16) (h6 : a6.IsWhole) (a7 : Memref sig .tc .vmem S1x7168x512 .fp8e4m3) (h7 : a7.IsWhole) (a8 : Memref sig .tc .vmem S1x224x512 .i8) (h8 : a8.IsWhole) (a9 : Memref sig .tc .vmem S256x512 .bf16) (h9 : a9.IsWhole) (a10 : Memref sig .tc .vmem S7168x512 .bf16) (h10 : a10.IsWhole) (X7 : BufTy.Contents (Elt F) a7.view.ty) (X8 : BufTy.Contents (Elt F) a8.view.ty) :
    ∀ n : Nat, n ≤ k0_t1_loop.trips → ∀ p, p ∈ pb_k0_t1 (F := F) 𝒱 c bd i a2 h2 a3 h3 a4 h4 a5 h5 a6 h6 a7 h7 a8 h8 a9 h9 a10 h10 X7 X8 n ↔ ∃ k : Fin k0_t1_loop.trips, k.val < n ∧ ∃ g : Fin 32, p = piece a7 a8 X7 X8 k g := by
  intro n
  induction n with
  | zero => intro _ p; rw [pb_k0_t1.eq_1]; simp
  | succ n ih =>
    intro hn p
    have := pb_k0_t1_succ (F := F) 𝒱 c bd i a2 h2 a3 h3 a4 h4 a5 h5 a6 h6 a7 h7 a8 h8 a9 h9 a10 h10 X7 X8 ⟨n, hn⟩
    simp only at this
    rw [this, List.mem_append, ih (by omega), tripL_eq]
    constructor
    · rintro (h | ⟨k, hk, g, rfl⟩)
      · obtain ⟨g, _, rfl⟩ := List.mem_map.1 h
        exact ⟨⟨n, hn⟩, by simp, g, rfl⟩
      · exact ⟨k, by omega, g, rfl⟩
    · rintro ⟨k, hk, g, rfl⟩
      by_cases h : k.val = n
      · left
        obtain rfl : k = ⟨n, hn⟩ := Fin.ext h
        refine List.mem_map.2 ⟨g, ?_, rfl⟩
        revert g; decide
      · right; exact ⟨k, by omega, g, rfl⟩

/-- After the loop the buffer holds the dequantised block, whatever it held before. -/
theorem read_loop (𝒱 : Variants) (c : Dev nD) (bd : Option 𝒱.V) (i : grid0.Coords) (a2 : Memref sig .tc .smem S24 .i32) (h2 : a2.IsWhole) (a3 : Memref sig .tc .smem S24 .i32) (h3 : a3.IsWhole) (a4 : Memref sig .tc .smem S24 .i32) (h4 : a4.IsWhole) (a5 : Memref sig .tc .smem S24 .i32) (h5 : a5.IsWhole) (a6 : Memref sig .tc .vmem S256x7168 .bf16) (h6 : a6.IsWhole) (a7 : Memref sig .tc .vmem S1x7168x512 .fp8e4m3) (h7 : a7.IsWhole) (a8 : Memref sig .tc .vmem S1x224x512 .i8) (h8 : a8.IsWhole) (a9 : Memref sig .tc .vmem S256x512 .bf16) (h9 : a9.IsWhole) (a10 : Memref sig .tc .vmem S7168x512 .bf16) (h10 : a10.IsWhole) (X7 : BufTy.Contents (Elt F) a7.view.ty) (X8 : BufTy.Contents (Elt F) a8.view.ty) (f : BufTy.Contents (Elt F) a10.view.ty) (n : Nat) (hn : n = 7) :
    a10.view.read (Elt F) (a10.view.writes (Elt F) f (pb_k0_t1 (F := F) 𝒱 c bd i a2 h2 a3 h3 a4 h4 a5 h5 a6 h6 a7 h7 a8 h8 a9 h9 a10 h10 X7 X8 n)) = deq (a7.view.read (Elt F) X7) (a8.view.read (Elt F) X8) := by
  subst hn
  have mem := pb_mem (F := F) 𝒱 c bd i a2 h2 a3 h3 a4 h4 a5 h5 a6 h6 a7 h7 a8 h8 a9 h9 a10 h10 X7 X8 7 (by rw [trips_eq])
  funext y
  refine View.read_writes_apply_of_pieces _ _ _ _ (fun p hp x => ?_) y ?_
  · obtain ⟨k, _, g, rfl⟩ := (mem p).1 hp
    exact piece_val a7 a8 X7 X8 k g x
  · have hy : (y 0).val < 7168 := (y 0).isLt
    have hy1 : (y 1).val < 512 := (y 1).isLt
    have hk : (y 0).val / 1024 < 7 := by omega
    have o5 := k0_off5_eq ⟨(y 0).val / 1024, by rw [trips_eq]; exact hk⟩ ⟨(y 0).val % 1024 / 32, by omega⟩
    refine ⟨piece a7 a8 X7 X8 ⟨(y 0).val / 1024, by rw [trips_eq]; exact hk⟩ ⟨(y 0).val % 1024 / 32, by omega⟩, (mem _).2 ⟨_, hk, _, rfl⟩, ?_⟩
    refine (LoadRect.mem_set _).2 fun a => ?_
    fin_cases a
    · refine ⟨(y 0).val % 32, Nat.mod_lt _ (by decide), ?_⟩
      refine Eq.trans ?_ (congrArg (· + 1 * ((y 0).val % 32)) (congrFun o5 0).symm)
      show (y 0).val = 1024 * ((y 0).val / 1024) + 32 * ((y 0).val % 1024 / 32) + 1 * ((y 0).val % 32)
      omega
    · refine ⟨(y 1).val, hy1, ?_⟩
      refine Eq.trans ?_ (congrArg (· + 1 * (y 1).val) (congrFun o5 1).symm)
      show (y 1).val = 0 + 1 * (y 1).val
      omega

end Cert.KernelIdeal.Run

end
-- ==== Proof.KernelIdeal.Pay.lean ====
/- What one element of the result's block is after the body. -/
module

public import proofs.«01_k».proof.Proof.KernelIdeal.Deq
public import Idealize.ShloMosaic.PureOps.Ideal
public import Idealize.ShloMosaic.Lib.Pointwise
public import Idealize.ShloMosaic.Lib.WordCmp

@[expose] public section

noncomputable section

namespace Cert.KernelIdeal.Run

open Cert.KernelIdeal Cert.KernelIdeal.Gen Idealize.ShloMosaic Idealize.ShloMosaic.WordCmp

theorem pay2_at (x : Vec Ideal S256x7168 .bf16) (d : Vec Ideal S7168x512 .bf16) (y : Vec Ideal S256x512 .bf16) (T L H : Nat)
    (hT : T ≤ 15) (hL : L ≤ 4096) (hH : H ≤ 4096) (r : Fin 256) (n : Fin 512) :
    k0_pay2 (F := Ideal) x d (BitVec.ofNat 32 T) (BitVec.ofNat 32 L) (BitVec.ofNat 32 H) y (ix2 r n)
      = if L ≤ 256 * T + r.val ∧ 256 * T + r.val < H then ∑ k : Fin 7168, (x (ix2 r k) : EReal) * d (ix2 k n) else y (ix2 r n) := by
  pointwise [k0_pay2]
  have hw : IntOp.addi (Scalar.muli (BitVec.ofNat 32 T) 256#32) (BitVec.ofNat 32 r.val) = BitVec.ofNat 32 (256 * T + r.val) := by
    show BitVec.ofNat 32 T * BitVec.ofNat 32 256 + BitVec.ofNat 32 r.val = _
    rw [Nat.mul_comm 256 T, BitVec.ofNat_add, BitVec.ofNat_mul]
  have hr := r.isLt
  rw [hw, cmpi_sge_ofNat (by omega) (by omega), cmpi_slt_ofNat (by omega) (by omega)]
  show (if _ = 1 then _ else _) = _
  refine if_congr ?_ rfl rfl
  by_cases h1 : L ≤ 256 * T + r.val <;> by_cases h2 : 256 * T + r.val < H <;> simp [h1, h2, IntOp.andi]

end Cert.KernelIdeal.Run

end
-- ==== Proof.KernelIdeal.Rel.lean ====
/- What the result's buffer holds of the product after each grid point. -/
module

public import proofs.«01_k».proof.Proof.KernelIdeal.Blocks
public import proofs.«01_k».proof.Proof.KernelIdeal.Deq
public import proofs.«01_k».proof.Proof.KernelIdeal.Pay

@[expose] public section

set_option maxRecDepth 16384

noncomputable section

namespace Cert.KernelIdeal.Run

open Cert.KernelIdeal Cert.KernelIdeal.Gen Idealize.ShloMosaic Idealize.ShloMosaic.TcCoe Idealize.SL.Sem Idealize.ShloMosaic.Routing

variable (m : (ℓ : Loc nD τ sig) → Buf (Elt Ideal) ℓ)

/-- The product of a row with the dequantised weights of an expert, at a column. -/
def prodOf (x : Vec Ideal S4096x7168 .bf16) (w : Vec Ideal S9x7168x2048 .fp8e4m3) (s : Vec Ideal S9x224x2048 .i8) (e : Fin 9) (row : Fin 4096) (col : Fin 2048) : EReal :=
  ∑ k : Fin 7168, (x (ix2 row k) : EReal) * (wEl (F := Ideal) (w (ix3 e k col)) (s (ix3 e (⟨k.val / 32, by have := k.isLt; omega⟩ : Fin 224) col)) : EReal)

/-- The same of the arrays in memory. -/
def prodAt (c : Dev nD) (e : Fin 9) (row : Fin 4096) (col : Fin 2048) : EReal :=
  prodOf (m ((c : Thread nD τ).loc main_arg0)) (m ((c : Thread nD τ).loc main_arg2)) (m ((c : Thread nD τ).loc main_arg3)) e row col

variable {m}

/-- The dequantised weights of a point. -/
def deqAt (hO : Ok m) (c : Dev nD) (t : Fin (cfgM m hO).N) : Vec Ideal S7168x512 .bf16 := deq (F := Ideal) (iblk m hO c 1 t) (iblk m hO c 2 t)

variable (hp : Cert.Pre.Sized (groups m))

/-- After a point the result's buffer holds the product in every row of the tile that the item's expert or one before it owns. -/
def Rel3 (c : Dev nD) (t : Fin grid0.N) (X : Vec Ideal S256x512 .bf16) : Prop :=
  ∀ (r : Fin 256) (n : Fin 512) (e : Fin 9), WorkList.st (Cert.Pre.size (groups m)) e.val ≤ (rowOf hp (itemOf t) r).val →
    (rowOf hp (itemOf t) r).val < WorkList.en (Cert.Pre.size (groups m)) e.val →
    (rowOf hp (itemOf t) r).val < WorkList.en (Cert.Pre.size (groups m)) (gOf hp (itemOf t)).val →
    X (ix2 r n) = prodAt m c e (rowOf hp (itemOf t) r) (colAt (colOf t) n)

include hp

theorem deq_at (hO : Ok m) (c : Dev nD) (t : Fin (cfgM m hO).N) (k : Fin 7168) (n : Fin 512) :
    deqAt hO c t (ix2 k n) = wEl (F := Ideal) ((m ((c : Thread nD τ).loc main_arg2) : Vec Ideal S9x7168x2048 .fp8e4m3) (ix3 (gOf hp (itemOf t)) k (colAt (colOf t) n)))
        ((m ((c : Thread nD τ).loc main_arg3) : Vec Ideal S9x224x2048 .i8) (ix3 (gOf hp (itemOf t)) (⟨k.val / 32, by have := k.isLt; omega⟩ : Fin 224) (colAt (colOf t) n))) :=
  congrArg₂ (wEl (F := Ideal)) (iblk1_at hp hO c t k n) (iblk2_at hp hO c t _ n)

/-- Two points on one expert and one column block have the same dequantised weights. -/
theorem deq_eq (hO : Ok m) (c : Dev nD) (t t' : Fin (cfgM m hO).N) (hg : gOf hp (itemOf t) = gOf hp (itemOf t')) (hn : colOf t = colOf t') :
    deqAt hO c t = deqAt hO c t' := by
  funext y
  obtain ⟨k, n, rfl⟩ : ∃ (k : Fin 7168) (n : Fin 512), y = ix2 k n := ⟨y 0, y 1, ValueIdx.eq_ix2 y⟩
  rw [deq_at hp, deq_at hp, hg, hn]

theorem owner_unique {e g row : Nat} (h1 : WorkList.st (Cert.Pre.size (groups m)) e ≤ row) (h2 : row < WorkList.en (Cert.Pre.size (groups m)) e)
    (h3 : WorkList.st (Cert.Pre.size (groups m)) g ≤ row) (h4 : row < WorkList.en (Cert.Pre.size (groups m)) g) : e = g := by
  have key : ∀ a b : Nat, a < b → WorkList.en (Cert.Pre.size (groups m)) a ≤ WorkList.st (Cert.Pre.size (groups m)) b := by
    intro a b hab
    obtain ⟨k, rfl⟩ : ∃ k, b = k + 1 := ⟨b - 1, by omega⟩
    rw [WorkList.st_succ]
    exact WorkList.en_mono _ (by omega)
  rcases Nat.lt_trichotomy e g with h | h | h
  · have := key e g h; omega
  · exact h
  · have := key g e h; omega

/-- What the item before left, at an item of the same tile and column block. -/
theorem carry (c : Dev nD) (t u : Fin grid0.N) (Y : Vec Ideal S256x512 .bf16) (hY : Rel3 hp c u Y) (hn : colOf u = colOf t)
    (ht : WorkList.tile (Cert.Pre.size (groups m)) (itemOf u).val = WorkList.tile (Cert.Pre.size (groups m)) (itemOf t).val)
    (r : Fin 256) (n : Fin 512) (e : Fin 9) (h1 : WorkList.st (Cert.Pre.size (groups m)) e.val ≤ (rowOf hp (itemOf t) r).val)
    (h2 : (rowOf hp (itemOf t) r).val < WorkList.en (Cert.Pre.size (groups m)) e.val)
    (h3 : (rowOf hp (itemOf t) r).val < WorkList.en (Cert.Pre.size (groups m)) (gOf hp (itemOf u)).val) :
    Y (ix2 r n) = prodAt m c e (rowOf hp (itemOf t) r) (colAt (colOf t) n) := by
  have hr : rowOf hp (itemOf u) r = rowOf hp (itemOf t) r := Fin.ext (by show 256 * _ + _ = 256 * _ + _; rw [ht])
  have h := hY r n e (by rw [hr]; exact h1) (by rw [hr]; exact h2) (by rw [hr]; exact h3)
  rw [h, hr, hn]

/-- One point: from what the item before left in the tile to what this one leaves. -/
theorem rel_step (hO : Ok m) (c : Dev nD) (t : Fin (cfgM m hO).N) (Y : Vec Ideal S256x512 .bf16)
    (hY : (itemOf t).val ≠ 0 → WorkList.tile (Cert.Pre.size (groups m)) ((itemOf t).val - 1) = WorkList.tile (Cert.Pre.size (groups m)) (itemOf t).val →
      Rel3 hp c ⟨t.val - 1, Nat.lt_of_le_of_lt (Nat.sub_le _ _) t.isLt⟩ Y)
    (W1 W2 W3 : BitVec 32) (hW1 : W1 = BitVec.ofNat 32 (WorkList.tile (Cert.Pre.size (groups m)) (itemOf t).val))
    (hW2 : W2 = BitVec.ofNat 32 (WorkList.lo (Cert.Pre.size (groups m)) (itemOf t).val))
    (hW3 : W3 = BitVec.ofNat 32 (WorkList.hi (Cert.Pre.size (groups m)) (itemOf t).val)) :
    Rel3 hp c t (k0_pay2 (F := Ideal) (iblk m hO c 0 t) (deqAt hO c t) W1 W2 W3 Y) := by
  subst hW1 hW2 hW3
  intro r n e h1 h2 h3
  have hs := hp.sum
  have hen : ∀ g, g ≤ 8 → WorkList.en (Cert.Pre.size (groups m)) g ≤ 4096 := fun g hg => hs ▸ WorkList.en_mono _ hg
  have hg8 := (WorkList.grp_spec _ hs (itemOf t).val).1
  have hst := WorkList.st_add (Cert.Pre.size (groups m)) (WorkList.grp (Cert.Pre.size (groups m)) (itemOf t).val)
  have hle := hen _ hg8
  refine (pay2_at (iblk m hO c 0 t) (deqAt hO c t) Y _ _ _ (WorkList.tile_bounds _ hs _).2.2 (by unfold WorkList.lo; split <;> omega) (by unfold WorkList.hi; split <;> omega) r n).trans ?_
  by_cases hi : (itemOf t).val < WorkList.total (Cert.Pre.size (groups m))
  · unfold WorkList.lo WorkList.hi
    rw [if_pos hi, if_pos hi]
    by_cases hr : WorkList.st (Cert.Pre.size (groups m)) (WorkList.grp (Cert.Pre.size (groups m)) (itemOf t).val) ≤ (rowOf hp (itemOf t) r).val
    · rw [if_pos ⟨hr, h3⟩]
      obtain rfl : e = gOf hp (itemOf t) := Fin.ext (owner_unique hp h1 h2 hr h3)
      unfold prodAt prodOf
      refine Finset.sum_congr rfl fun k _ => ?_
      exact congrArg₂ (fun a b : EReal => a * b) (iblk0_at hp hO c t r k) (deq_at hp hO c t k n)
    · rw [if_neg fun h => hr h.1]
      obtain ⟨j, hj, htile, hlt⟩ := WorkList.before_item _ hs (itemOf t).val (rowOf hp (itemOf t) r).val hi (Nat.le_add_right _ _) (Nat.lt_of_not_le hr)
      have h0 : (itemOf t).val ≠ 0 := by omega
      obtain ⟨_, hc, hit⟩ := prev_coords t h0
      have hju : (itemOf ⟨t.val - 1, Nat.lt_of_le_of_lt (Nat.sub_le _ _) t.isLt⟩).val = j := by omega
      refine carry hp c t _ Y (hY h0 (by rw [hj, Nat.add_sub_cancel, ← hj]; exact htile)) hc (by rw [hju]; exact htile) r n e h1 h2 ?_
      show _ < WorkList.en _ (WorkList.grp _ _)
      rw [hju]; exact hlt
  · unfold WorkList.lo WorkList.hi
    rw [if_neg hi, if_neg hi, if_neg (by omega)]
    have htp := WorkList.total_pos _ hs
    have h0 : (itemOf t).val ≠ 0 := by omega
    obtain ⟨_, hc, hit⟩ := prev_coords t h0
    obtain ⟨hg, htile⟩ := WorkList.idle_item _ hs (itemOf ⟨t.val - 1, Nat.lt_of_le_of_lt (Nat.sub_le _ _) t.isLt⟩).val (by omega)
    rw [hit] at hg htile
    refine carry hp c t _ Y (hY h0 ?_) hc htile.symm r n e h1 h2 ?_
    · rw [show (itemOf t).val - 1 = (itemOf ⟨t.val - 1, Nat.lt_of_le_of_lt (Nat.sub_le _ _) t.isLt⟩).val by omega]; exact htile.symm
    · show _ < WorkList.en _ (WorkList.grp _ _)
      rw [← hg]; exact h3

end Cert.KernelIdeal.Run

end
-- ==== Proof.KernelIdeal.ValueData.lean ====
/- The proof data of the idealised kernel's run to its values. -/
module

public import proofs.«01_k».proof.Proof.KernelIdeal.Rel
public import Idealize.ShloMosaic.Lib.Pipeline.DatRel
public import Idealize.ShloMosaic.Lib.Pipeline.ArrRel
public import Idealize.ShloMosaic.Lib.Pipeline.Value
public import Idealize.ShloMosaic.Lib.Claim

@[expose] public section

set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

local notation "𝕄" => MT nD τ sig Unit (Elt Ideal) ℕ (UR sig nD τ) ℕ

variable (m : (ℓ : Loc nD τ sig) → Buf (Elt Ideal) ℓ) (ρ : Dev nD → PrngReg) (hp : Cert.Pre.Sized (groups m))

/-- The window held to a predicate: the result's. -/
def held : Fin 4 → Bool := fun w => w.val == 3

/-- The predicate. -/
def relW (hO : Ok m) (c : Dev nD) : (w : Fin (cfgM m hO).W) → Fin (cfgM m hO).N → (((cfgM m hO).win w).block.Idx → Elt Ideal ((cfgM m hO).win w).elt) → Prop
  | ⟨0, _⟩, _, _ => True
  | ⟨1, _⟩, _, _ => True
  | ⟨2, _⟩, _, _ => True
  | ⟨3, _⟩, t, X => Rel3 hp c t X

/-- Before point `t` the scratch holds the dequantised weights of the point before, if there is one. -/
def scrInv (hO : Ok m) (c : Dev nD) (t : Fin ((cfgM m hO).N + 1)) : sProp 𝕄 :=
  iprop((∃ d, ⌜∀ u : Fin (cfgM m hO).N, u.val + 1 = t.val → d = deqAt hO c u⌝ ∗ owns (c : Thread nD τ) scM0_0 fullShare d) ∗ (∃ r, prngReg c r))

/-- The proof data. -/
def datsV (hO : Ok m) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ t := iprop(scrInv m hO c t ∗ Pipeline.ΦT pre0 (tbl m) c)
  q _ := fullShare
  owed _ := 0

theorem A_eqV (hO : Ok m) (c : Dev nD) (w : Fin (cfgM m hO).W) : (datsV m hO c).A w = V m c (Pipeline.arrRef spec0 w) := by
  dsimp only [datsV]

theorem afterV_0 (hO : Ok m) (c : Dev nD) (t : Fin (cfgM m hO).N) : (datsV m hO c).after 0 t = iblk m hO c 0 t := by dsimp only [datsV]; try rfl
theorem afterV_1 (hO : Ok m) (c : Dev nD) (t : Fin (cfgM m hO).N) : (datsV m hO c).after 1 t = iblk m hO c 1 t := by dsimp only [datsV]; try rfl
theorem afterV_2 (hO : Ok m) (c : Dev nD) (t : Fin (cfgM m hO).N) : (datsV m hO c).after 2 t = iblk m hO c 2 t := by dsimp only [datsV]; try rfl

theorem beforeV_0 (hO : Ok m) (c : Dev nD) (t : Fin (cfgM m hO).N) (d) : (datsV m hO c).before 0 t d = iblk m hO c 0 t :=
  before0_0_of m hO (datsV m hO c) (A_eqV m hO c 0) (afterV_0 m hO c) t d
theorem beforeV_1 (hO : Ok m) (c : Dev nD) (t : Fin (cfgM m hO).N) (d) : (datsV m hO c).before 1 t d = iblk m hO c 1 t :=
  before0_1_of m hO (datsV m hO c) (A_eqV m hO c 1) (afterV_1 m hO c) t d
theorem beforeV_2 (hO : Ok m) (c : Dev nD) (t : Fin (cfgM m hO).N) (d) : (datsV m hO c).before 2 t d = iblk m hO c 2 t :=
  before0_2_of m hO (datsV m hO c) (A_eqV m hO c 2) (afterV_2 m hO c) t d

/-- The relational data. -/
abbrev rdatV (hO : Ok m) (c : Dev nD) : RDat τ (Elt Ideal) Unit ℕ (UR sig nD τ) ℕ (cfgM m hO) c := (datsV m hO c).toRRel held (relW m hp hO c)

include hp in
/-- Where the result is written back. -/
theorem flush3_iff (hO : Ok m) (t : Fin (cfgM m hO).N) : ((cfgM m hO).win 3).flush t = true ↔
    (itemOf t).val = 23 ∨ WorkList.tile (Cert.Pre.size (groups m)) ((itemOf t).val + 1) ≠ WorkList.tile (Cert.Pre.size (groups m)) (itemOf t).val := by
  have hN : (cfgM m hO).N = 96 := rfl
  have htc := coords_eq t
  have hc := (colOf t).isLt
  have hi := (itemOf t).isLt
  have hidx : ∀ h : t.val + 1 < (cfgM m hO).N, (((cfgM m hO).win 3).index ⟨t.val + 1, h⟩ ≠ ((cfgM m hO).win 3).index t ↔
      ((itemOf t).val = 23 ∨ WorkList.tile (Cert.Pre.size (groups m)) ((itemOf t).val + 1) ≠ WorkList.tile (Cert.Pre.size (groups m)) (itemOf t).val)) := by
    intro h
    rw [index3 hp, index3 hp]
    by_cases h23 : (itemOf t).val = 23
    · refine ⟨fun _ => .inl h23, fun _ he => last_coords t h h23 (Fin.ext ?_)⟩
      exact congrFun he 1
    · obtain ⟨h1, h2⟩ := next_coords t h h23
      rw [h1, h2]
      refine ⟨fun hne => .inr fun he => hne (by rw [he]), fun hor he => ?_⟩
      rcases hor with h' | h'
      · exact h23 h'
      · exact h' (congrFun he 0)
  have hdef : ((cfgM m hO).win 3).flush t = true ↔ (t.val + 1 = (cfgM m hO).N ∨ ∃ h : t.val + 1 < (cfgM m hO).N, ((cfgM m hO).win 3).index ⟨t.val + 1, h⟩ ≠ ((cfgM m hO).win 3).index t) := by
    unfold Window.flush
    rw [Bool.and_eq_true, Bool.or_eq_true, decide_eq_true_iff, decide_eq_true_iff]
    exact ⟨fun h => h.2, fun h => ⟨rfl, h⟩⟩
  rw [hdef]
  constructor
  · rintro (h | ⟨h, hne⟩)
    · left; omega
    · exact (hidx h).1 hne
  · intro hor
    by_cases h : t.val + 1 < (cfgM m hO).N
    · exact .inr ⟨h, (hidx h).2 hor⟩
    · left; have := t.isLt; omega

/-- What the body finds in the result's buffer at an item of the tile of the item before is what it left there. -/
theorem finds3 (hO : Ok m) (c : Dev nD) (t : Fin (cfgM m hO).N) (Y) (hF : (rdatV m hp hO c).Finds 3 t Y) (h0 : (itemOf t).val ≠ 0)
    (ht : WorkList.tile (Cert.Pre.size (groups m)) ((itemOf t).val - 1) = WorkList.tile (Cert.Pre.size (groups m)) (itemOf t).val) :
    Rel3 hp c ⟨t.val - 1, Nat.lt_of_le_of_lt (Nat.sub_le _ _) t.isLt⟩ Y := by
  obtain ⟨ht0, hc, hit⟩ := prev_coords t h0
  rcases (RDat.finds_of_pos (rd := rdatV m hp hO c) (w := 3) (t := t) rfl ht0 Y).1 hF with h | h
  · have hi := (itemOf t).isLt
    rcases (flush3_iff m hp hO _).1 h with h' | h'
    · omega
    · refine absurd ?_ h'
      rw [hit, ← ht]
      exact congrArg _ (by omega)
  · exact (datsV m hO c).toRRel_leaves (w := 3) rfl h

/-- A point that is not fresh is not the first of its column block and reads the word of the point before. -/
theorem not_fresh (i : Fin 24) (a b : BitVec 32)
    (h : ¬((Scalar.cmpi .ne (Scalar.extui (Scalar.ori (Scalar.cmpi .eq (BitVec.ofNat 32 i.val) 0#32) (Scalar.cmpi .ne a b)) : BitVec 32) 0#32) = 1#1)) : i.val ≠ 0 ∧ a = b := by
  have h1 : ∀ p q : BitVec 1, ¬((Scalar.cmpi .ne (Scalar.extui (Scalar.ori p q) : BitVec 32) 0#32) = 1#1) → p = 0#1 ∧ q = 0#1 := by decide
  obtain ⟨hp0, hq0⟩ := h1 _ _ h
  have h2 : ∀ i : Fin 24, Scalar.cmpi .eq (BitVec.ofNat 32 i.val) 0#32 = 0#1 → i.val ≠ 0 := by decide
  refine ⟨h2 i hp0, ?_⟩
  by_contra hne
  have : Scalar.cmpi .ne a b = 1#1 := by
    show BitVec.ofBool (a != b) = 1#1
    rw [bne_iff_ne.2 hne]; rfl
  rw [this] at hq0
  exact absurd hq0 (by decide)

include hp in
theorem same_grp (i : Fin 24) (j : Fin 24) (hw : tbl m 0 (ValueIdx.ix1 i) = tbl m 0 (ValueIdx.ix1 j)) : gOf hp j = gOf hp i := by
  have l1 := (WorkList.grp_spec _ hp.sum i.val).1
  have l2 := (WorkList.grp_spec _ hp.sum j.val).1
  have h3 := congrArg BitVec.toNat ((tbl_grp hp i).symm.trans (hw.trans (tbl_grp hp j)))
  rw [BitVec.toNat_ofNat, BitVec.toNat_ofNat, Nat.mod_eq_of_lt (by omega), Nat.mod_eq_of_lt (by omega)] at h3
  exact Fin.ext h3.symm

include hp in
/-- Two consecutive points of a column block that read one expert's word have the same dequantised weights. -/
theorem deq_kept (hO : Ok m) (c : Dev nD) (t u : Fin (cfgM m hO).N) (hc : colOf u = colOf t)
    (hw : tbl m 0 (ValueIdx.ix1 (itemOf t)) = tbl m 0 (ValueIdx.ix1 (itemOf u))) : deqAt hO c u = deqAt hO c t :=
  deq_eq hp hO c _ _ (same_grp m hp _ _ hw) hc

theorem pred_item (t : Fin grid0.N) (hi : (itemOf t).val ≠ 0) :
    (⟨(grid0.coords t 1).val - 1, Nat.lt_of_le_of_lt (Nat.sub_le _ _) (grid0.coords t 1).isLt⟩ : Fin 24) = itemOf ⟨t.val - 1, Nat.lt_of_le_of_lt (Nat.sub_le _ _) t.isLt⟩ :=
  Fin.ext (by have := (prev_coords t hi).2.2; show (itemOf t).val - 1 = _; omega)

include hp in
/-- The scratch a point finds, when it and the point before read one expert's word, holds the point's own dequantised weights. -/
theorem kept_scr (hO : Ok m) (c : Dev nD) (t : Fin grid0.N) (hi : (itemOf t).val ≠ 0) (a b : BitVec 32) (ha : a = tbl m 0 (ValueIdx.ix1 (itemOf t)))
    (hb : b = tbl m 0 (ValueIdx.ix1 (⟨(grid0.coords t 1).val - 1, Nat.lt_of_le_of_lt (Nat.sub_le _ _) (grid0.coords t 1).isLt⟩ : Fin 24))) (hw : a = b) :
    deqAt hO c ⟨t.val - 1, Nat.lt_of_le_of_lt (Nat.sub_le _ _) t.isLt⟩ = deqAt hO c t :=
  deq_kept m hp hO c t _ (prev_coords t hi).2.1 (ha.symm.trans (hw.trans (hb.trans (congrArg (fun j => tbl m 0 (ValueIdx.ix1 j)) (pred_item t hi)))))

theorem eq_of_succ {N : Nat} (t u : Fin N) (h : u.val + 1 = t.succ.val) : t = u := Fin.ext (Nat.add_right_cancel ((Fin.val_succ t).symm.trans h.symm))

theorem pred_succ (t : Fin grid0.N) (hi : (itemOf t).val ≠ 0) (h : t.val - 1 < grid0.N) : (⟨t.val - 1, h⟩ : Fin grid0.N).val + 1 = t.castSucc.val := by
  have := (prev_coords t hi).1
  show t.val - 1 + 1 = t.val
  omega

end Cert.KernelIdeal.Run

end
-- ==== Proof.KernelIdeal.ValA.lean ====
/- The body of the idealised kernel at a point that dequantises a weight block. -/
module

public import proofs.«01_k».proof.Proof.KernelIdeal.Runs

@[expose] public section

-- membership in a rectangle of production extents (`View.cover_of_tiled`): the elaborator's structural look
-- recurses once per coordinate of the long axes
set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at such a point, from known contents: the pieces it leaves in the result's buffer and in the weights' buffer. -/
def runA (c : Dev nD) (i : grid0.Coords) (arg6 : Memref sig .tc .vmem S256x7168 .bf16) (harg6 : arg6.IsWhole) (arg7 : Memref sig .tc .vmem S1x7168x512 .fp8e4m3) (harg7 : arg7.IsWhole) (arg8 : Memref sig .tc .vmem S1x224x512 .i8) (harg8 : arg8.IsWhole) (arg9 : Memref sig .tc .vmem S256x512 .bf16) (harg9 : arg9.IsWhole) (arg10 : Memref sig .tc .vmem S7168x512 .bf16) (harg10 : arg10.IsWhole)

    (x0 : Vec F S256x7168 .bf16) (x1 : Vec F S1x7168x512 .fp8e4m3) (x2 : Vec F S1x224x512 .i8) (y : Vec F S256x512 .bf16) (d : Vec F S7168x512 .bf16) (xt0 : TbBuf0 (F := F) c tbM0_0) (xt1 : TbBuf0 (F := F) c tbM0_1) (xt2 : TbBuf0 (F := F) c tbM0_2) (xt3 : TbBuf0 (F := F) c tbM0_3)
    (hc0 : cond0_0 i (tbM0_0.view.readAt (Elt F) (Rect.unit (s := S24) (k0_off1 i) S1.size (k0_off1_inb i)).toLoadRect xt0 (Shape.Idx.first (numel1_S1.symm ▸ Nat.one_pos))) (tbM0_0.view.readAt (Elt F) (Rect.unit (s := S24) (k0_off2 i) S1.size (k0_off2_inb i)).toLoadRect xt0 (Shape.Idx.first (numel1_S1.symm ▸ Nat.one_pos)))) :
    { P : BufTy.Contents (Elt F) arg9.view.ty × BufTy.Contents (Elt F) arg10.view.ty // ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare y ∗ owns (c : Thread nD τ) arg10 fullShare d ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ (arg9.view.loc (c : Thread nD τ) ↦[arg9.view.set]{fullShare} P.1) ∗ (arg10.view.loc (c : Thread nD τ) ↦[arg10.view.set]{fullShare} P.2) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped_matmul i tbM0_0 htbM0_0 tbM0_1 htbM0_1 tbM0_2 htbM0_2 tbM0_3 htbM0_3 arg6 harg6 arg7 harg7 arg8 harg8 arg9 harg9 arg10 harg10) K } := by
  refine ⟨⟨?_, ?_⟩, fun E K => ?run⟩
  case run =>
    simp only [cc0_grouped_matmul_eq_skeleton]; unfold cc0_grouped_matmul_skel
    unfold owns
    iintro ⟨⟨%f0, %hf0, H0⟩, ⟨%f1, %hf1, H1⟩, ⟨%f2, %hf2, H2⟩, ⟨%f3, %hf3, H3⟩, ⟨%fs0, %hfs0, HS0⟩, HT0, HT1, HT2, HT3, Hk⟩
    obtain rfl := harg6.eq_unread hf0; obtain rfl := harg7.eq_unread hf1; obtain rfl := harg8.eq_unread hf2
    obtain rfl := harg9.eq_unread hf3; obtain rfl := harg10.eq_unread hfs0
    sl_exec (disch := first | sl_exact hc0)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]; · iexact H3
    isplitl [HS0]; · iexact HS0
    isplitl [HT0]; · iexact HT0
    isplitl [HT1]; · iexact HT1
    isplitl [HT2]; · iexact HT2
    iexact HT3

end Cert.KernelIdeal.Run

end
-- ==== Proof.KernelIdeal.ValB.lean ====
/- The body of the idealised kernel at a point that keeps the weight block of the point before. -/
module

public import proofs.«01_k».proof.Proof.KernelIdeal.ValA

@[expose] public section

-- membership in a rectangle of production extents (`View.cover_of_tiled`): the elaborator's structural look
-- recurses once per coordinate of the long axes
set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at such a point, from known contents: the pieces it leaves in the result's buffer and in the weights' buffer. -/
def runB (c : Dev nD) (i : grid0.Coords) (arg6 : Memref sig .tc .vmem S256x7168 .bf16) (harg6 : arg6.IsWhole) (arg7 : Memref sig .tc .vmem S1x7168x512 .fp8e4m3) (harg7 : arg7.IsWhole) (arg8 : Memref sig .tc .vmem S1x224x512 .i8) (harg8 : arg8.IsWhole) (arg9 : Memref sig .tc .vmem S256x512 .bf16) (harg9 : arg9.IsWhole) (arg10 : Memref sig .tc .vmem S7168x512 .bf16) (harg10 : arg10.IsWhole)

    (x0 : Vec F S256x7168 .bf16) (x1 : Vec F S1x7168x512 .fp8e4m3) (x2 : Vec F S1x224x512 .i8) (y : Vec F S256x512 .bf16) (d : Vec F S7168x512 .bf16) (xt0 : TbBuf0 (F := F) c tbM0_0) (xt1 : TbBuf0 (F := F) c tbM0_1) (xt2 : TbBuf0 (F := F) c tbM0_2) (xt3 : TbBuf0 (F := F) c tbM0_3)
    (hc0 : ¬cond0_0 i (tbM0_0.view.readAt (Elt F) (Rect.unit (s := S24) (k0_off1 i) S1.size (k0_off1_inb i)).toLoadRect xt0 (Shape.Idx.first (numel1_S1.symm ▸ Nat.one_pos))) (tbM0_0.view.readAt (Elt F) (Rect.unit (s := S24) (k0_off2 i) S1.size (k0_off2_inb i)).toLoadRect xt0 (Shape.Idx.first (numel1_S1.symm ▸ Nat.one_pos)))) :
    { P : BufTy.Contents (Elt F) arg9.view.ty × BufTy.Contents (Elt F) arg10.view.ty // ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare y ∗ owns (c : Thread nD τ) arg10 fullShare d ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ (arg9.view.loc (c : Thread nD τ) ↦[arg9.view.set]{fullShare} P.1) ∗ (arg10.view.loc (c : Thread nD τ) ↦[arg10.view.set]{fullShare} P.2) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped_matmul i tbM0_0 htbM0_0 tbM0_1 htbM0_1 tbM0_2 htbM0_2 tbM0_3 htbM0_3 arg6 harg6 arg7 harg7 arg8 harg8 arg9 harg9 arg10 harg10) K } := by
  refine ⟨⟨?_, ?_⟩, fun E K => ?run⟩
  case run =>
    simp only [cc0_grouped_matmul_eq_skeleton]; unfold cc0_grouped_matmul_skel
    unfold owns
    iintro ⟨⟨%f0, %hf0, H0⟩, ⟨%f1, %hf1, H1⟩, ⟨%f2, %hf2, H2⟩, ⟨%f3, %hf3, H3⟩, ⟨%fs0, %hfs0, HS0⟩, HT0, HT1, HT2, HT3, Hk⟩
    obtain rfl := harg6.eq_unread hf0; obtain rfl := harg7.eq_unread hf1; obtain rfl := harg8.eq_unread hf2
    obtain rfl := harg9.eq_unread hf3; obtain rfl := harg10.eq_unread hfs0
    sl_exec (disch := first | sl_exact hc0)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]; · iexact H3
    isplitl [HS0]; · iexact HS0
    isplitl [HT0]; · iexact HT0
    isplitl [HT1]; · iexact HT1
    isplitl [HT2]; · iexact HT2
    iexact HT3

end Cert.KernelIdeal.Run

end
-- ==== Proof.KernelIdeal.Body.lean ====
/- What the body of the idealised kernel leaves in the result's buffer and in the weights' buffer. -/
module

public import proofs.«01_k».proof.Proof.KernelIdeal.ValB
public import proofs.«01_k».proof.Proof.KernelIdeal.Deq

@[expose] public section

-- membership in a rectangle of production extents (`View.cover_of_tiled`): the elaborator's structural look
-- recurses once per coordinate of the long axes
set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

omit [FloatOps F] in
/-- The rectangle that is the whole array puts every index in its place. -/
theorem whole_coords {a b : Nat} (off : Fin 2 → Nat) (hoff : off = ![0, 0]) (inb : ∀ x, off x + (![a, b] : Fin 2 → Nat) x ≤ (⟨2, ![a, b]⟩ : Shape).size x) (p : (⟨2, ![a, b]⟩ : Shape).Idx) :
    ∀ x, (p x).val = (Rect.unit (s := ⟨2, ![a, b]⟩) off ![a, b] inb).off x + (Rect.unit (s := ⟨2, ![a, b]⟩) off ![a, b] inb).stride x * (p x).val := by
  subst hoff
  intro x
  show (p x).val = (![0, 0] : Fin 2 → Nat) x + 1 * (p x).val
  fin_cases x <;> exact ((Nat.zero_add _).trans (Nat.one_mul _)).symm

/-- A load of the whole buffer reads its contents. -/
theorem read_whole {a b : Nat} {e : EltTy} {sp : Space} (v : View sig .tc sp ⟨2, ![a, b]⟩ e) (f : v.ty.Contents (Elt F)) {x : (⟨2, ![a, b]⟩ : Shape).Idx → Elt F e}
    (inb : ∀ x, (![0, 0] : Fin 2 → Nat) x + (![a, b] : Fin 2 → Nat) x ≤ (⟨2, ![a, b]⟩ : Shape).size x) (hx : v.read (Elt F) f = x) :
    View.readAt (Elt F) v (Rect.unit (s := ⟨2, ![a, b]⟩) ![0, 0] ![a, b] inb).toLoadRect f = x := by
  subst hx
  funext p
  exact congrArg (v.read (Elt F) f) ((Rect.unit (s := ⟨2, ![a, b]⟩) ![0, 0] ![a, b] inb).emb_eq_of_coords p p (whole_coords _ rfl inb p))

theorem pay2_congr {x x' : Vec F S256x7168 .bf16} {d d' : Vec F S7168x512 .bf16} {w1 w1' w2 w2' w3 w3' : Elt F .i32} {y y' : Vec F S256x512 .bf16}
    (hx : x = x') (hd : d = d') (h1 : w1 = w1') (h2 : w2 = w2') (h3 : w3 = w3') (hy : y = y') : k0_pay2 x d w1 w2 w3 y = k0_pay2 x' d' w1' w2' w3' y' := by
  subst hx hd h1 h2 h3 hy; rfl

/-- The result's buffer. -/
theorem outA (c : Dev nD) (i : grid0.Coords) (arg6 : Memref sig .tc .vmem S256x7168 .bf16) (harg6 : arg6.IsWhole) (arg7 : Memref sig .tc .vmem S1x7168x512 .fp8e4m3) (harg7 : arg7.IsWhole) (arg8 : Memref sig .tc .vmem S1x224x512 .i8) (harg8 : arg8.IsWhole) (arg9 : Memref sig .tc .vmem S256x512 .bf16) (harg9 : arg9.IsWhole) (arg10 : Memref sig .tc .vmem S7168x512 .bf16) (harg10 : arg10.IsWhole)
    (x0 : Vec F S256x7168 .bf16) (x1 : Vec F S1x7168x512 .fp8e4m3) (x2 : Vec F S1x224x512 .i8) (y : Vec F S256x512 .bf16) (d : Vec F S7168x512 .bf16) (xt0 : TbBuf0 (F := F) c tbM0_0) (xt1 : TbBuf0 (F := F) c tbM0_1) (xt2 : TbBuf0 (F := F) c tbM0_2) (xt3 : TbBuf0 (F := F) c tbM0_3)
    (hc0 : cond0_0 i (tbM0_0.view.readAt (Elt F) (Rect.unit (s := S24) (k0_off1 i) S1.size (k0_off1_inb i)).toLoadRect xt0 (Shape.Idx.first (numel1_S1.symm ▸ Nat.one_pos))) (tbM0_0.view.readAt (Elt F) (Rect.unit (s := S24) (k0_off2 i) S1.size (k0_off2_inb i)).toLoadRect xt0 (Shape.Idx.first (numel1_S1.symm ▸ Nat.one_pos)))) :
    arg9.view.read (Elt F) (runA (F := F) c i arg6 harg6 arg7 harg7 arg8 harg8 arg9 harg9 arg10 harg10 x0 x1 x2 y d xt0 xt1 xt2 xt3 hc0).1.1 = k0_pay2 x0 (deq x1 x2) (tbM0_1.view.readAt (Elt F) (Rect.unit (s := S24) (k0_off1 i) S1.size (k0_off1_inb i)).toLoadRect xt1 (Shape.Idx.first (numel1_S1.symm ▸ Nat.one_pos))) (tbM0_2.view.readAt (Elt F) (Rect.unit (s := S24) (k0_off1 i) S1.size (k0_off1_inb i)).toLoadRect xt2 (Shape.Idx.first (numel1_S1.symm ▸ Nat.one_pos))) (tbM0_3.view.readAt (Elt F) (Rect.unit (s := S24) (k0_off1 i) S1.size (k0_off1_inb i)).toLoadRect xt3 (Shape.Idx.first (numel1_S1.symm ▸ Nat.one_pos))) y := by
  unfold runA
  dsimp only
  funext p
  refine (View.read_writes_cons_hit_of_coords _ _ _ _ _ p p (whole_coords _ rfl _ p)).trans ?_
  refine congrFun (pay2_congr (read_whole _ _ _ (harg6.read_unread _)) (read_whole _ _ _ ?_) rfl rfl rfl (read_whole _ _ _ (harg9.read_unread _))) p
  exact (read_loop (hn := trips_eq) ..).trans (by rw [harg7.read_unread, harg8.read_unread])

/-- The weights' buffer. -/
theorem scrA (c : Dev nD) (i : grid0.Coords) (arg6 : Memref sig .tc .vmem S256x7168 .bf16) (harg6 : arg6.IsWhole) (arg7 : Memref sig .tc .vmem S1x7168x512 .fp8e4m3) (harg7 : arg7.IsWhole) (arg8 : Memref sig .tc .vmem S1x224x512 .i8) (harg8 : arg8.IsWhole) (arg9 : Memref sig .tc .vmem S256x512 .bf16) (harg9 : arg9.IsWhole) (arg10 : Memref sig .tc .vmem S7168x512 .bf16) (harg10 : arg10.IsWhole)
    (x0 : Vec F S256x7168 .bf16) (x1 : Vec F S1x7168x512 .fp8e4m3) (x2 : Vec F S1x224x512 .i8) (y : Vec F S256x512 .bf16) (d : Vec F S7168x512 .bf16) (xt0 : TbBuf0 (F := F) c tbM0_0) (xt1 : TbBuf0 (F := F) c tbM0_1) (xt2 : TbBuf0 (F := F) c tbM0_2) (xt3 : TbBuf0 (F := F) c tbM0_3)
    (hc0 : cond0_0 i (tbM0_0.view.readAt (Elt F) (Rect.unit (s := S24) (k0_off1 i) S1.size (k0_off1_inb i)).toLoadRect xt0 (Shape.Idx.first (numel1_S1.symm ▸ Nat.one_pos))) (tbM0_0.view.readAt (Elt F) (Rect.unit (s := S24) (k0_off2 i) S1.size (k0_off2_inb i)).toLoadRect xt0 (Shape.Idx.first (numel1_S1.symm ▸ Nat.one_pos)))) :
    arg10.view.read (Elt F) (runA (F := F) c i arg6 harg6 arg7 harg7 arg8 harg8 arg9 harg9 arg10 harg10 x0 x1 x2 y d xt0 xt1 xt2 xt3 hc0).1.2 = deq x1 x2 := by
  unfold runA
  dsimp only
  exact (read_loop (n := Scf.trips 0#32 (Scalar.addi 0#32 7#32) 1#32) (hn := trips_eq) ..).trans (by rw [harg7.read_unread, harg8.read_unread])

/-- The body's triple at such a point. -/
theorem bodyA (c : Dev nD) (i : grid0.Coords) (arg6 : Memref sig .tc .vmem S256x7168 .bf16) (harg6 : arg6.IsWhole) (arg7 : Memref sig .tc .vmem S1x7168x512 .fp8e4m3) (harg7 : arg7.IsWhole) (arg8 : Memref sig .tc .vmem S1x224x512 .i8) (harg8 : arg8.IsWhole) (arg9 : Memref sig .tc .vmem S256x512 .bf16) (harg9 : arg9.IsWhole) (arg10 : Memref sig .tc .vmem S7168x512 .bf16) (harg10 : arg10.IsWhole)
    (x0 : Vec F S256x7168 .bf16) (x1 : Vec F S1x7168x512 .fp8e4m3) (x2 : Vec F S1x224x512 .i8) (y : Vec F S256x512 .bf16) (d : Vec F S7168x512 .bf16) (xt0 : TbBuf0 (F := F) c tbM0_0) (xt1 : TbBuf0 (F := F) c tbM0_1) (xt2 : TbBuf0 (F := F) c tbM0_2) (xt3 : TbBuf0 (F := F) c tbM0_3)
    (hc0 : cond0_0 i (tbM0_0.view.readAt (Elt F) (Rect.unit (s := S24) (k0_off1 i) S1.size (k0_off1_inb i)).toLoadRect xt0 (Shape.Idx.first (numel1_S1.symm ▸ Nat.one_pos))) (tbM0_0.view.readAt (Elt F) (Rect.unit (s := S24) (k0_off2 i) S1.size (k0_off2_inb i)).toLoadRect xt0 (Shape.Idx.first (numel1_S1.symm ▸ Nat.one_pos)))) (E : Set ℕ) (K : PUnit → sProp 𝕄) :
    iprop(owns (c : Thread nD τ) arg6 fullShare x0 ∗ owns (c : Thread nD τ) arg7 fullShare x1 ∗ owns (c : Thread nD τ) arg8 fullShare x2 ∗ owns (c : Thread nD τ) arg9 fullShare y ∗ owns (c : Thread nD τ) arg10 fullShare d ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare (k0_pay2 x0 (deq x1 x2) (tbM0_1.view.readAt (Elt F) (Rect.unit (s := S24) (k0_off1 i) S1.size (k0_off1_inb i)).toLoadRect xt1 (Shape.Idx.first (numel1_S1.symm ▸ Nat.one_pos))) (tbM0_2.view.readAt (Elt F) (Rect.unit (s := S24) (k0_off1 i) S1.size (k0_off1_inb i)).toLoadRect xt2 (Shape.Idx.first (numel1_S1.symm ▸ Nat.one_pos))) (tbM0_3.view.readAt (Elt F) (Rect.unit (s := S24) (k0_off1 i) S1.size (k0_off1_inb i)).toLoadRect xt3 (Shape.Idx.first (numel1_S1.symm ▸ Nat.one_pos))) y) ∗ owns (c : Thread nD τ) arg10 fullShare (deq x1 x2) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped_matmul i tbM0_0 htbM0_0 tbM0_1 htbM0_1 tbM0_2 htbM0_2 tbM0_3 htbM0_3 arg6 harg6 arg7 harg7 arg8 harg8 arg9 harg9 arg10 harg10) K := by
  iintro ⟨H0, H1, H2, H3, HS0, HT0, HT1, HT2, HT3, Hk⟩
  iapply ((runA (F := F) c i arg6 harg6 arg7 harg7 arg8 harg8 arg9 harg9 arg10 harg10 x0 x1 x2 y d xt0 xt1 xt2 xt3 hc0).2 E K)
  isplitl [H0]; · iexact H0
  isplitl [H1]; · iexact H1
  isplitl [H2]; · iexact H2
  isplitl [H3]; · iexact H3
  isplitl [HS0]; · iexact HS0
  isplitl [HT0]; · iexact HT0
  isplitl [HT1]; · iexact HT1
  isplitl [HT2]; · iexact HT2
  isplitl [HT3]; · iexact HT3
  iintro ⟨H0, H1, H2, H3, HS0, HT0, HT1, HT2, HT3⟩
  iapply Hk
  isplitl [H0]; · iexact H0
  isplitl [H1]; · iexact H1
  isplitl [H2]; · iexact H2
  isplitl [H3]
  · unfold owns; iexists _; isplitr
    · ipureintro; exact outA c i arg6 harg6 arg7 harg7 arg8 harg8 arg9 harg9 arg10 harg10 x0 x1 x2 y d xt0 xt1 xt2 xt3 hc0
    iexact H3
  isplitl [HS0]
  · unfold owns; iexists _; isplitr
    · ipureintro; exact scrA c i arg6 harg6 arg7 harg7 arg8 harg8 arg9 harg9 arg10 harg10 x0 x1 x2 y d xt0 xt1 xt2 xt3 hc0
    iexact HS0
  isplitl [HT0]; · iexact HT0
  isplitl [HT1]; · iexact HT1
  isplitl [HT2]; · iexact HT2
  iexact HT3

/-- The result's buffer. -/
theorem outB (c : Dev nD) (i : grid0.Coords) (arg6 : Memref sig .tc .vmem S256x7168 .bf16) (harg6 : arg6.IsWhole) (arg7 : Memref sig .tc .vmem S1x7168x512 .fp8e4m3) (harg7 : arg7.IsWhole) (arg8 : Memref sig .tc .vmem S1x224x512 .i8) (harg8 : arg8.IsWhole) (arg9 : Memref sig .tc .vmem S256x512 .bf16) (harg9 : arg9.IsWhole) (arg10 : Memref sig .tc .vmem S7168x512 .bf16) (harg10 : arg10.IsWhole)
    (x0 : Vec F S256x7168 .bf16) (x1 : Vec F S1x7168x512 .fp8e4m3) (x2 : Vec F S1x224x512 .i8) (y : Vec F S256x512 .bf16) (d : Vec F S7168x512 .bf16) (xt0 : TbBuf0 (F := F) c tbM0_0) (xt1 : TbBuf0 (F := F) c tbM0_1) (xt2 : TbBuf0 (F := F) c tbM0_2) (xt3 : TbBuf0 (F := F) c tbM0_3)
    (hc0 : ¬cond0_0 i (tbM0_0.view.readAt (Elt F) (Rect.unit (s := S24) (k0_off1 i) S1.size (k0_off1_inb i)).toLoadRect xt0 (Shape.Idx.first (numel1_S1.symm ▸ Nat.one_pos))) (tbM0_0.view.readAt (Elt F) (Rect.unit (s := S24) (k0_off2 i) S1.size (k0_off2_inb i)).toLoadRect xt0 (Shape.Idx.first (numel1_S1.symm ▸ Nat.one_pos)))) :
    arg9.view.read (Elt F) (runB (F := F) c i arg6 harg6 arg7 harg7 arg8 harg8 arg9 harg9 arg10 harg10 x0 x1 x2 y d xt0 xt1 xt2 xt3 hc0).1.1 = k0_pay2 x0 (d) (tbM0_1.view.readAt (Elt F) (Rect.unit (s := S24) (k0_off1 i) S1.size (k0_off1_inb i)).toLoadRect xt1 (Shape.Idx.first (numel1_S1.symm ▸ Nat.one_pos))) (tbM0_2.view.readAt (Elt F) (Rect.unit (s := S24) (k0_off1 i) S1.size (k0_off1_inb i)).toLoadRect xt2 (Shape.Idx.first (numel1_S1.symm ▸ Nat.one_pos))) (tbM0_3.view.readAt (Elt F) (Rect.unit (s := S24) (k0_off1 i) S1.size (k0_off1_inb i)).toLoadRect xt3 (Shape.Idx.first (numel1_S1.symm ▸ Nat.one_pos))) y := by
  unfold runB
  dsimp only
  funext p
  refine (View.read_writes_cons_hit_of_coords _ _ _ _ _ p p (whole_coords _ rfl _ p)).trans ?_
  refine congrFun (pay2_congr (read_whole _ _ _ (harg6.read_unread _)) (read_whole _ _ _ ?_) rfl rfl rfl (read_whole _ _ _ (harg9.read_unread _))) p
  exact harg10.read_unread _

/-- The weights' buffer. -/
theorem scrB (c : Dev nD) (i : grid0.Coords) (arg6 : Memref sig .tc .vmem S256x7168 .bf16) (harg6 : arg6.IsWhole) (arg7 : Memref sig .tc .vmem S1x7168x512 .fp8e4m3) (harg7 : arg7.IsWhole) (arg8 : Memref sig .tc .vmem S1x224x512 .i8) (harg8 : arg8.IsWhole) (arg9 : Memref sig .tc .vmem S256x512 .bf16) (harg9 : arg9.IsWhole) (arg10 : Memref sig .tc .vmem S7168x512 .bf16) (harg10 : arg10.IsWhole)
    (x0 : Vec F S256x7168 .bf16) (x1 : Vec F S1x7168x512 .fp8e4m3) (x2 : Vec F S1x224x512 .i8) (y : Vec F S256x512 .bf16) (d : Vec F S7168x512 .bf16) (xt0 : TbBuf0 (F := F) c tbM0_0) (xt1 : TbBuf0 (F := F) c tbM0_1) (xt2 : TbBuf0 (F := F) c tbM0_2) (xt3 : TbBuf0 (F := F) c tbM0_3)
    (hc0 : ¬cond0_0 i (tbM0_0.view.readAt (Elt F) (Rect.unit (s := S24) (k0_off1 i) S1.size (k0_off1_inb i)).toLoadRect xt0 (Shape.Idx.first (numel1_S1.symm ▸ Nat.one_pos))) (tbM0_0.view.readAt (Elt F) (Rect.unit (s := S24) (k0_off2 i) S1.size (k0_off2_inb i)).toLoadRect xt0 (Shape.Idx.first (numel1_S1.symm ▸ Nat.one_pos)))) :
    arg10.view.read (Elt F) (runB (F := F) c i arg6 harg6 arg7 harg7 arg8 harg8 arg9 harg9 arg10 harg10 x0 x1 x2 y d xt0 xt1 xt2 xt3 hc0).1.2 = d := by
  unfold runB
  dsimp only
  exact harg10.read_unread _

/-- The body's triple at such a point. -/
theorem bodyB (c : Dev nD) (i : grid0.Coords) (arg6 : Memref sig .tc .vmem S256x7168 .bf16) (harg6 : arg6.IsWhole) (arg7 : Memref sig .tc .vmem S1x7168x512 .fp8e4m3) (harg7 : arg7.IsWhole) (arg8 : Memref sig .tc .vmem S1x224x512 .i8) (harg8 : arg8.IsWhole) (arg9 : Memref sig .tc .vmem S256x512 .bf16) (harg9 : arg9.IsWhole) (arg10 : Memref sig .tc .vmem S7168x512 .bf16) (harg10 : arg10.IsWhole)
    (x0 : Vec F S256x7168 .bf16) (x1 : Vec F S1x7168x512 .fp8e4m3) (x2 : Vec F S1x224x512 .i8) (y : Vec F S256x512 .bf16) (d : Vec F S7168x512 .bf16) (xt0 : TbBuf0 (F := F) c tbM0_0) (xt1 : TbBuf0 (F := F) c tbM0_1) (xt2 : TbBuf0 (F := F) c tbM0_2) (xt3 : TbBuf0 (F := F) c tbM0_3)
    (hc0 : ¬cond0_0 i (tbM0_0.view.readAt (Elt F) (Rect.unit (s := S24) (k0_off1 i) S1.size (k0_off1_inb i)).toLoadRect xt0 (Shape.Idx.first (numel1_S1.symm ▸ Nat.one_pos))) (tbM0_0.view.readAt (Elt F) (Rect.unit (s := S24) (k0_off2 i) S1.size (k0_off2_inb i)).toLoadRect xt0 (Shape.Idx.first (numel1_S1.symm ▸ Nat.one_pos)))) (E : Set ℕ) (K : PUnit → sProp 𝕄) :
    iprop(owns (c : Thread nD τ) arg6 fullShare x0 ∗ owns (c : Thread nD τ) arg7 fullShare x1 ∗ owns (c : Thread nD τ) arg8 fullShare x2 ∗ owns (c : Thread nD τ) arg9 fullShare y ∗ owns (c : Thread nD τ) arg10 fullShare d ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare (k0_pay2 x0 (d) (tbM0_1.view.readAt (Elt F) (Rect.unit (s := S24) (k0_off1 i) S1.size (k0_off1_inb i)).toLoadRect xt1 (Shape.Idx.first (numel1_S1.symm ▸ Nat.one_pos))) (tbM0_2.view.readAt (Elt F) (Rect.unit (s := S24) (k0_off1 i) S1.size (k0_off1_inb i)).toLoadRect xt2 (Shape.Idx.first (numel1_S1.symm ▸ Nat.one_pos))) (tbM0_3.view.readAt (Elt F) (Rect.unit (s := S24) (k0_off1 i) S1.size (k0_off1_inb i)).toLoadRect xt3 (Shape.Idx.first (numel1_S1.symm ▸ Nat.one_pos))) y) ∗ owns (c : Thread nD τ) arg10 fullShare (d) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped_matmul i tbM0_0 htbM0_0 tbM0_1 htbM0_1 tbM0_2 htbM0_2 tbM0_3 htbM0_3 arg6 harg6 arg7 harg7 arg8 harg8 arg9 harg9 arg10 harg10) K := by
  iintro ⟨H0, H1, H2, H3, HS0, HT0, HT1, HT2, HT3, Hk⟩
  iapply ((runB (F := F) c i arg6 harg6 arg7 harg7 arg8 harg8 arg9 harg9 arg10 harg10 x0 x1 x2 y d xt0 xt1 xt2 xt3 hc0).2 E K)
  isplitl [H0]; · iexact H0
  isplitl [H1]; · iexact H1
  isplitl [H2]; · iexact H2
  isplitl [H3]; · iexact H3
  isplitl [HS0]; · iexact HS0
  isplitl [HT0]; · iexact HT0
  isplitl [HT1]; · iexact HT1
  isplitl [HT2]; · iexact HT2
  isplitl [HT3]; · iexact HT3
  iintro ⟨H0, H1, H2, H3, HS0, HT0, HT1, HT2, HT3⟩
  iapply Hk
  isplitl [H0]; · iexact H0
  isplitl [H1]; · iexact H1
  isplitl [H2]; · iexact H2
  isplitl [H3]
  · unfold owns; iexists _; isplitr
    · ipureintro; exact outB c i arg6 harg6 arg7 harg7 arg8 harg8 arg9 harg9 arg10 harg10 x0 x1 x2 y d xt0 xt1 xt2 xt3 hc0
    iexact H3
  isplitl [HS0]
  · unfold owns; iexists _; isplitr
    · ipureintro; exact scrB c i arg6 harg6 arg7 harg7 arg8 harg8 arg9 harg9 arg10 harg10 x0 x1 x2 y d xt0 xt1 xt2 xt3 hc0
    iexact HS0
  isplitl [HT0]; · iexact HT0
  isplitl [HT1]; · iexact HT1
  isplitl [HT2]; · iexact HT2
  iexact HT3

end Cert.KernelIdeal.Run

end
-- ==== Proof.KernelIdeal.ValueBody.lean ====
/- The body at a grid point: what it finds to what it leaves, with values. -/
module

public import proofs.«01_k».proof.Proof.KernelIdeal.ValueData
public import proofs.«01_k».proof.Proof.KernelIdeal.Body
public import Idealize.ShloMosaic.Lib.Pipeline.DatRel
public import Idealize.ShloMosaic.Lib.Pipeline.ArrRel
public import Idealize.ShloMosaic.Lib.Pipeline.Value
public import Idealize.ShloMosaic.Lib.Claim

@[expose] public section

set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

local notation "𝕄" => MT nD τ sig Unit (Elt Ideal) ℕ (UR sig nD τ) ℕ

variable (m : (ℓ : Loc nD τ sig) → Buf (Elt Ideal) ℓ) (ρ : Dev nD → PrngReg) (hp : Cert.Pre.Sized (groups m))

/-! ## The body -/

def bodyPreV (hO : Ok m) (c : Dev nD) (t : Fin (cfgM m hO).N) : sProp 𝕄 :=
  iprop((datsV m hO c).Φ t.castSucc ∗ (datsV m hO c).owesAt () t.castSucc
    ∗ (∃ d, owns (c : Thread nD τ) (ms0_0 m hO t) fullShare ((datsV m hO c).before 0 t d))
    ∗ (∃ d, owns (c : Thread nD τ) (ms0_1 m hO t) fullShare ((datsV m hO c).before 1 t d))
    ∗ (∃ d, owns (c : Thread nD τ) (ms0_2 m hO t) fullShare ((datsV m hO c).before 2 t d))
    ∗ (∃ Y, ⌜(rdatV m hp hO c).Finds 3 t Y⌝ ∗ owns (c : Thread nD τ) (ms0_3 m hO t) fullShare Y))

def bodyPostV (hO : Ok m) (c : Dev nD) (t : Fin (cfgM m hO).N) : sProp 𝕄 :=
  iprop((datsV m hO c).Φ t.succ ∗ (datsV m hO c).owesAt () t.succ
    ∗ owns (c : Thread nD τ) (ms0_0 m hO t) fullShare ((datsV m hO c).after 0 t)
    ∗ owns (c : Thread nD τ) (ms0_1 m hO t) fullShare ((datsV m hO c).after 1 t)
    ∗ owns (c : Thread nD τ) (ms0_2 m hO t) fullShare ((datsV m hO c).after 2 t)
    ∗ (∃ X, ⌜relW m hp hO c 3 t X⌝ ∗ owns (c : Thread nD τ) (ms0_3 m hO t) fullShare X))

set_option maxHeartbeats 1600000 in
theorem sound_bodyV (hO : Ok m) (c : Dev nD) (t : Fin (cfgM m hO).N) :
    bodyPreV m hp hO c t ⊢ wp frame (wpE (defs₀ (F := Ideal)) Variants.none c none) Set.univ (bodyAt0 (adm m hO) t) (fun _ => bodyPostV m hp hO c t) := by
  unfold bodyPreV bodyPostV bodyAt0
  simp only [beforeV_0, beforeV_1, beforeV_2]
  rw [show (datsV m hO c).owesAt () t.succ = (datsV m hO c).owesAt () t.castSucc from rfl,
    afterV_0, afterV_1, afterV_2]
  rw [show (datsV m hO c).Φ t.castSucc = iprop(scrInv m hO c t.castSucc ∗ Pipeline.ΦT pre0 (tbl m) c) from rfl,
    show (datsV m hO c).Φ t.succ = iprop(scrInv m hO c t.succ ∗ Pipeline.ΦT pre0 (tbl m) c) from rfl, PhiT0_eq]
  unfold scrInv
  have hrel : ∀ Y, (rdatV m hp hO c).Finds 3 t Y → relW m hp hO c 3 t (k0_pay2 (F := Ideal) (iblk m hO c 0 t) (deqAt hO c t)
      (tbM0_1.view.readAt (Elt Ideal) (Rect.unit (s := S24) (k0_off1 (grid0.coords t)) S1.size (k0_off1_inb (grid0.coords t))).toLoadRect (tbl m 1) (Shape.Idx.first (numel1_S1.symm ▸ Nat.one_pos)))
      (tbM0_2.view.readAt (Elt Ideal) (Rect.unit (s := S24) (k0_off1 (grid0.coords t)) S1.size (k0_off1_inb (grid0.coords t))).toLoadRect (tbl m 2) (Shape.Idx.first (numel1_S1.symm ▸ Nat.one_pos)))
      (tbM0_3.view.readAt (Elt Ideal) (Rect.unit (s := S24) (k0_off1 (grid0.coords t)) S1.size (k0_off1_inb (grid0.coords t))).toLoadRect (tbl m 3) (Shape.Idx.first (numel1_S1.symm ▸ Nat.one_pos))) Y) := by
    intro Y hF
    exact rel_step hp hO c t Y (finds3 m hp hO c t Y hF) _ _ _ ((word1_at (F := Ideal) (grid0.coords t) (tbl m 1)).trans (tbl_tile hp _))
      ((word1_at (F := Ideal) (grid0.coords t) (tbl m 2)).trans (tbl_lo hp _)) ((word1_at (F := Ideal) (grid0.coords t) (tbl m 3)).trans (tbl_hi hp _))
  by_cases h0 : cond0_0 (grid0.coords t) (tbM0_0.view.readAt (Elt Ideal) (Rect.unit (s := S24) (k0_off1 (grid0.coords t)) S1.size (k0_off1_inb (grid0.coords t))).toLoadRect (tbl m 0) (Shape.Idx.first (numel1_S1.symm ▸ Nat.one_pos))) (tbM0_0.view.readAt (Elt Ideal) (Rect.unit (s := S24) (k0_off2 (grid0.coords t)) S1.size (k0_off2_inb (grid0.coords t))).toLoadRect (tbl m 0) (Shape.Idx.first (numel1_S1.symm ▸ Nat.one_pos)))
  · iintro ⟨⟨⟨⟨%ds, %hds, HS0⟩, Hg⟩, ⟨HT0, HT1, HT2, HT3⟩⟩, Ho, ⟨%d0, H0⟩, ⟨%d1, H1⟩, ⟨%d2, H2⟩, ⟨%Y, %hY, H3⟩⟩
    iapply (bodyA (F := Ideal) c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (iblk m hO c 0 t) (iblk m hO c 1 t) (iblk m hO c 2 t) Y ds (tbl m 0) (tbl m 1) (tbl m 2) (tbl m 3) h0 Set.univ _)
    isplitl [H0]; · iexact H0
    isplitl [H1]; · iexact H1
    isplitl [H2]; · iexact H2
    isplitl [H3]; · iexact H3
    isplitl [HS0]; · iexact HS0
    isplitl [HT0]; · iexact HT0
    isplitl [HT1]; · iexact HT1
    isplitl [HT2]; · iexact HT2
    isplitl [HT3]; · iexact HT3
    iintro ⟨H0, H1, H2, H3, HS0, HT0, HT1, HT2, HT3⟩
    isplitl [HS0 Hg HT0 HT1 HT2 HT3]
    · isplitl [HS0 Hg]
      · isplitl [HS0]
        · iexists (deqAt hO c t); isplitr
          · ipureintro; exact fun u hu => congrArg (deqAt hO c) (eq_of_succ t u hu)
          · iexact HS0
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    iexists _; isplitr
    · ipureintro; exact hrel Y hY
    · iexact H3
  · iintro ⟨⟨⟨⟨%ds, %hds, HS0⟩, Hg⟩, ⟨HT0, HT1, HT2, HT3⟩⟩, Ho, ⟨%d0, H0⟩, ⟨%d1, H1⟩, ⟨%d2, H2⟩, ⟨%Y, %hY, H3⟩⟩
    obtain ⟨hi, hw⟩ := not_fresh (itemOf t) _ _ h0
    have hk := kept_scr m hp hO c t hi _ _ (word1_at (F := Ideal) (grid0.coords t) (tbl m 0)) (word2_at (F := Ideal) (grid0.coords t) hi (tbl m 0)) hw
    have hd : ds = deqAt hO c t := Eq.trans (hds ⟨t.val - 1, Nat.lt_of_le_of_lt (Nat.sub_le _ _) t.isLt⟩ (pred_succ t hi _)) hk
    subst hd
    iapply (bodyB (F := Ideal) c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (iblk m hO c 0 t) (iblk m hO c 1 t) (iblk m hO c 2 t) Y (deqAt hO c t) (tbl m 0) (tbl m 1) (tbl m 2) (tbl m 3) h0 Set.univ _)
    isplitl [H0]; · iexact H0
    isplitl [H1]; · iexact H1
    isplitl [H2]; · iexact H2
    isplitl [H3]; · iexact H3
    isplitl [HS0]; · iexact HS0
    isplitl [HT0]; · iexact HT0
    isplitl [HT1]; · iexact HT1
    isplitl [HT2]; · iexact HT2
    isplitl [HT3]; · iexact HT3
    iintro ⟨H0, H1, H2, H3, HS0, HT0, HT1, HT2, HT3⟩
    isplitl [HS0 Hg HT0 HT1 HT2 HT3]
    · isplitl [HS0 Hg]
      · isplitl [HS0]
        · iexists (deqAt hO c t); isplitr
          · ipureintro; exact fun u hu => congrArg (deqAt hO c) (eq_of_succ t u hu)
          · iexact HS0
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    iexists _; isplitr
    · ipureintro; exact hrel Y hY
    · iexact H3

theorem defs_rowV (hO : Ok m) (t : Fin (cfgM m hO).N) :
    defs₀ (F := Ideal) .tc (cfgM m hO).body ((cfgM m hO).bodyArgs t ((cfgM m hO).slots t)) = bodyAt0 (adm m hO) t := by
  unfold defs₀; rw [Defs.onTc_tc]

theorem body_obligationV (hO : Ok m) (c : Dev nD) : BodyObligationRel (datsV m hO c) (defs₀ (F := Ideal)) Variants.none () Set.univ held (relW m hp hO c) := fun t => by
  rw [bigSep_W0, bigSep_W0, defs_rowV m hO]
  exact triple_restated (sound_bodyV m hp hO c t) rfl .rfl fun _ => .rfl

end Cert.KernelIdeal.Run

end
-- ==== Proof.KernelIdeal.Value.lean ====
/- The idealised kernel's result: every element is the row's product with its expert's dequantised weights. -/
module

public import proofs.«01_k».proof.Proof.KernelIdeal.ValueBody
public import Idealize.ShloMosaic.Lib.Pipeline.DatRel
public import Idealize.ShloMosaic.Lib.Pipeline.ArrRel
public import Idealize.ShloMosaic.Lib.Pipeline.Value
public import Idealize.ShloMosaic.Lib.Claim

@[expose] public section

set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

local notation "𝕄" => MT nD τ sig Unit (Elt Ideal) ℕ (UR sig nD τ) ℕ

variable (m : (ℓ : Loc nD τ sig) → Buf (Elt Ideal) ℓ) (ρ : Dev nD → PrngReg) (hp : Cert.Pre.Sized (groups m))

/-! ## The launch -/

theorem hinV (hO : Ok m) (c : Dev nD) : iprop(Pipeline.ΦA spec0 c ∗ Pipeline.ΦT pre0 (tbl m) c) ⊢ (rdatV m hp hO c).Φ 0 := by
  rw [show (rdatV m hp hO c).Φ 0 = iprop(scrInv m hO c 0 ∗ Pipeline.ΦT pre0 (tbl m) c) from rfl, PhiA0_eq]
  unfold scrInv
  iintro ⟨⟨⟨%d, HS0⟩, Hg⟩, HT⟩
  isplitl [HS0 Hg]
  · isplitl [HS0]
    · iexists d; isplitr
      · ipureintro; exact fun u hu => absurd hu (Nat.succ_ne_zero _)
      · iexact HS0
    iexact Hg
  iexact HT

theorem houtV (hO : Ok m) (c : Dev nD) : (rdatV m hp hO c).Φ (Fin.last (cfgM m hO).N) ⊢ Pipeline.ΦA spec0 c := by
  rw [show (rdatV m hp hO c).Φ (Fin.last (cfgM m hO).N) = iprop(scrInv m hO c (Fin.last (cfgM m hO).N) ∗ Pipeline.ΦT pre0 (tbl m) c) from rfl, PhiA0_eq]
  unfold scrInv
  iintro ⟨⟨⟨%d, %hd, HS0⟩, Hg⟩, HT⟩
  isplitl [HS0]
  · iexists d; iexact HS0
  iexact Hg

set_option backward.isDefEq.respectTransparency.types false in
set_option maxHeartbeats 4000000 in
theorem run_mainV (hO : Ok m) : θ_run defs (onTc (τ := τ) (main (F := Ideal))) (s₀ m ρ) (RDat.FramePost ((Pipeline.pin pcfgs fun _ => adm m hO) 0) (fun c => rdatV m hp hO c) (V m)) :=
  Pipeline.RDat.θ_run_frameP_track pcfgs (fun _ => adm m hO) (0 : Fin 1) launch0 defs₀ Variants.none (fun c => rdatV m hp hO c) m ρ main
    (hbody := fun c => (body_obligationV m hp hO c).toRRel) (hshare := fun c => (datsV m hO c).share_full fun _ => rfl)
    (howed := fun _ _ => rfl) (V := V m) (hmain := hmain m Variants.none) (hA := A_eqV m hO) (hpf := V_pre m)
    (hin := hinV m hp hO) (hout := houtV m hp hO)

end Cert.KernelIdeal.Run

end
-- ==== Proof.KernelIdeal.Result.lean ====
/- The idealised kernel's result, element by element: the product of a row with its own expert's dequantised weights. -/
module

public import proofs.«01_k».proof.Proof.KernelIdeal.Value

@[expose] public section

set_option maxRecDepth 16384

noncomputable section

namespace Cert.KernelIdeal.Run

open Cert.KernelIdeal.Gen Idealize.ShloMosaic Idealize.ShloMosaic.TcCoe Idealize.SL.Sem
open Idealize.ShloMosaic.Pipeline (Dat RDat Cfg Window)

variable (m : (ℓ : Loc nD τ sig) → Buf (Elt Ideal) ℓ) (ρ : Dev nD → PrngReg) (hp : Cert.Pre.Sized (groups m))

theorem tile_mono (s : Nat → Nat) (hs : WorkList.en s 8 = 4096) {i j : Nat} (h : i ≤ j) : WorkList.tile s i ≤ WorkList.tile s j := by
  obtain ⟨k, rfl⟩ := Nat.exists_eq_add_of_le h
  clear h
  induction k with
  | zero => exact le_rfl
  | succ k ih => have := WorkList.tile_step s hs (i + k); rw [← Nat.add_assoc]; omega

/-- Of the items of a tile one alone is the last. -/
theorem last_unique (s : Nat → Nat) (hs : WorkList.en s 8 = 4096) {i j : Nat} (hi : i < 24) (hj : j < 24) (h : WorkList.tile s i = WorkList.tile s j)
    (fi : i = 23 ∨ WorkList.tile s (i + 1) ≠ WorkList.tile s i) (fj : j = 23 ∨ WorkList.tile s (j + 1) ≠ WorkList.tile s j) : i = j := by
  have key : ∀ a b : Nat, b < 24 → WorkList.tile s a = WorkList.tile s b → (a = 23 ∨ WorkList.tile s (a + 1) ≠ WorkList.tile s a) → ¬ a < b := by
    intro a b hb hab fa hlt
    have h1 := WorkList.tile_step s hs a
    have h2 := tile_mono s hs (show a + 1 ≤ b from hlt)
    omega
  have h1 := key i j hj h fi
  have h2 := key j i hi h.symm fj
  omega

include hp in
/-- No two points write back the same block of the result. -/
theorem disjoint3 (hO : Ok m) : ∀ t t' : Fin (cfgM m hO).N, ((cfgM m hO).win 3).flush t = true → ((cfgM m hO).win 3).flush t' = true → t ≠ t' →
    Disjoint (((cfgM m hO).win 3).blk t).view.set (((cfgM m hO).win 3).blk t').view.set := by
  refine Window.hdisj_of_index_inj _ fun t t' hf hf' h => ?_
  have h' := ((index3 hp hO t).symm.trans h).trans (index3 hp hO t')
  have h0 : WorkList.tile (Cert.Pre.size (groups m)) (itemOf t).val = WorkList.tile (Cert.Pre.size (groups m)) (itemOf t').val := congrFun h' 0
  have h1 : (colOf t).val = (colOf t').val := congrFun h' 1
  have h2 := last_unique _ hp.sum (itemOf t).isLt (itemOf t').isLt h0 ((flush3_iff m hp hO t).1 hf) ((flush3_iff m hp hO t').1 hf')
  have e1 := coords_eq t
  have e2 := coords_eq t'
  exact Fin.ext (by omega)

/-- The result, at a row that expert `e` owns. -/
theorem arr_at (hO : Ok m) (c : Dev nD) (after : (w' : Fin (cfgM m hO).W) → Fin (cfgM m hO).N → ((cfgM m hO).win w').block.Idx → Elt Ideal ((cfgM m hO).win w').elt)
    (hL : ∀ t : Fin (cfgM m hO).N, ((cfgM m hO).win 3).flush t = true → (rdatV m hp hO c).Leaves 3 t (after 3 t))
    (e : Fin 9) (row : Fin 4096) (col : Fin 2048) (h1 : WorkList.st (Cert.Pre.size (groups m)) e.val ≤ row.val) (h2 : row.val < WorkList.en (Cert.Pre.size (groups m)) e.val) :
    (((rdatV m hp hO c).withAfter after).arrAt 3 (cfgM m hO).N : Vec Ideal S4096x2048 .bf16) (ix2 row col) = prodAt m c e row col := by
  obtain ⟨i, hi, hT, hfl⟩ := WorkList.tile_cover _ hp.sum (row.val / 256) (by have := row.isLt; omega)
  obtain ⟨t, htn, hti⟩ := point_at ⟨col.val / 512, by have := col.isLt; omega⟩ ⟨i, hi⟩
  have hf : ((cfgM m hO).win 3).flush t = true := (flush3_iff m hp hO t).2 (by rw [hti]; exact hfl)
  have hread := ((rdatV m hp hO c).withAfter after).read_blk_arrAt_eq_flushed 3 (disjoint3 m hp hO) (cfgM m hO).N t t.isLt hf
  have hX : Rel3 hp c t (after 3 t) := (datsV m hO c).toRRel_leaves (w := 3) rfl (hL t hf)
  have hrow : rowOf hp (itemOf t) ⟨row.val % 256, Nat.mod_lt _ (by decide)⟩ = row :=
    Fin.ext (by show 256 * WorkList.tile _ (itemOf t).val + row.val % 256 = row.val; rw [hti]; show 256 * WorkList.tile _ i + _ = _; rw [hT]; omega)
  have hcol : colAt (colOf t) ⟨col.val % 512, Nat.mod_lt _ (by decide)⟩ = col :=
    Fin.ext (by show 512 * (colOf t).val + col.val % 512 = col.val; rw [htn]; show 512 * (col.val / 512) + _ = _; omega)
  have hfull : 256 * (WorkList.tile (Cert.Pre.size (groups m)) i + 1) ≤ WorkList.en (Cert.Pre.size (groups m)) (WorkList.grp (Cert.Pre.size (groups m)) i) := by
    rcases hfl with rfl | h
    · exact WorkList.full_of_last _ hp.sum
    · exact WorkList.full_of_step _ hp.sum i h
  have hlt : row.val < WorkList.en (Cert.Pre.size (groups m)) (gOf hp (itemOf t)).val := by
    rw [hti]
    show row.val < WorkList.en _ (WorkList.grp _ i)
    rw [hT] at hfull; omega
  have hval := hX ⟨row.val % 256, Nat.mod_lt _ (by decide)⟩ ⟨col.val % 512, Nat.mod_lt _ (by decide)⟩ e (by rw [hrow]; exact h1) (by rw [hrow]; exact h2) (by rw [hrow]; exact hlt)
  have hob := oblk_at (F := Ideal) hp hO t (((rdatV m hp hO c).withAfter after).arrAt 3 (cfgM m hO).N) ⟨row.val % 256, Nat.mod_lt _ (by decide)⟩ ⟨col.val % 512, Nat.mod_lt _ (by decide)⟩
  rw [hrow, hcol] at hval hob
  exact hob.symm.trans ((congrFun hread _).trans hval)

include hp in
/-- THE RUN, TO ITS VALUES: every row of the result is the product with the dequantised weights of the expert that owns the row; the arguments end unchanged. -/
theorem result (hO : Ok m) : θ_run defs (onTc (τ := τ) (main (F := Ideal))) ⟨m, fun _ => 0, ρ⟩ (fun r => ∀ c : Dev nD,
      (∀ (e : Fin 9) (row : Fin 4096) (col : Fin 2048), WorkList.st (Cert.Pre.size (groups m)) e.val ≤ row.val → row.val < WorkList.en (Cert.Pre.size (groups m)) e.val →
        (r.2.mem ((c.tc : Thread nD τ).loc main_v65) : Vec Ideal S4096x2048 .bf16) (ix2 row col) = prodAt m c e row col)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have hv : θ_run defs (onTc (τ := τ) (main (F := Ideal))) ⟨m, fun _ => 0, ρ⟩ (fun r => ∀ c : Dev nD,
      ∀ (e : Fin 9) (row : Fin 4096) (col : Fin 2048), WorkList.st (Cert.Pre.size (groups m)) e.val ≤ row.val → row.val < WorkList.en (Cert.Pre.size (groups m)) e.val →
        (r.2.mem ((c.tc : Thread nD τ).loc main_v65) : Vec Ideal S4096x2048 .bf16) (ix2 row col) = prodAt m c e row col) :=
    (θ_run defs _ _).mono (fun r h c e row col h1 h2 => by
      obtain ⟨after, hL, hA⟩ := RDat.FramePost.exists_exact h c
      exact (congrFun (hA 3) (ix2 row col)).trans (arr_at m hp hO c after (fun t hf => hL 3 t hf) e row col h1 h2)) (run_mainV m ρ hp hO)
  have hu := frame_of m ρ hO (fun c => rdatV m hp hO c) (A_eqV m hO) (run_mainV m ρ hp hO)
  exact (θ_run defs _ _).mono (fun r h c => ⟨h.1 c, h.2 c⟩) (θ_run_and hv hu)

end Cert.KernelIdeal.Run

end
-- ==== Proof.RefPay.lean ====
/- The reference's payloads at an index. -/
module

public import proofs.«01_k».proof.Proof.Gen.ReferenceIdeal.Skeleton
public import Idealize.ShloMosaic.Lib.Pointwise
public import Idealize.ShloMosaic.Lib.WordCmp

@[expose] public section

set_option maxRecDepth 16384

noncomputable section

namespace Cert.ReferenceIdeal.Val

open Cert.ReferenceIdeal Cert.ReferenceIdeal.Gen Idealize.ShloMosaic Idealize.ShloMosaic.WordCmp

/-- The reference's result from its loads: the nine sizes, scale blocks and weight blocks, and the activations. -/
def chain {F : FTy → Type} [FloatOps F] (g : Fin 9 → BitVec 32) (s : Fin 9 → Vec F S1x224x2048 .i8) (w : Fin 9 → Vec F S1x7168x2048 .fp8e4m3) (x : Vec F S4096x7168 .bf16) : FVec F S4096x2048 .bf16 :=
  let v0 := iota .tc S4096x2048 32 [0] iota_S4096x2048_d0_w32
  let v3 := Scalar.addi 0#32 (g 0)
  let v29 := Scalar.addi v3 (g 1)
  let v55 := Scalar.addi v29 (g 2)
  let v81 := Scalar.addi v55 (g 3)
  let v107 := Scalar.addi v81 (g 4)
  let v133 := Scalar.addi v107 (g 5)
  let v159 := Scalar.addi v133 (g 6)
  let v185 := Scalar.addi v159 (g 7)
  let v27 : FVec F S4096x2048 .f32 := k0_pay2 (F := F) (g 0) (s 0) (w 0) x
  let v79 := k0_pay4 v0 v3 v27 v29 (k0_pay3 (s 1)) (w 1) x (g 2) (s 2) (w 2) x
  let v105 := k0_pay5 v0 v55 v79 v81 (s 3) (w 3) x
  let v157 := k0_pay7 v0 v81 v105 v107 (k0_pay6 (s 4) (w 4)) x (g 5) (s 5) (w 5) x
  let v183 := k0_pay9 v0 v133 v157 v159 (k0_pay8 (s 6)) (w 6) x
  k0_pay1 v0 v183 v185 (k0_pay10 (s 7) (w 7) x) (k0_pay11 (F := F) v0 v159 (g 7)) (g 8) (s 8) (w 8) x

/-- The second of two values in the rows from `lo` and before `hi`, elsewhere the first. -/
def sel (r : Nat) (lo hi : BitVec 32) (a b : EReal) : EReal :=
  Scalar.select (IntOp.andi (IntOp.cmpi .sge (BitVec.ofNat 32 r) lo) (IntOp.cmpi .slt (BitVec.ofNat 32 r) hi)) a b

/-- A row's product with an expert's weights, each times its scale. -/
def pr (s : Vec Ideal S1x224x2048 .i8) (w : Vec Ideal S1x7168x2048 .fp8e4m3) (x : Vec Ideal S4096x7168 .bf16) (r : Fin 4096) (n : Fin 2048) : EReal :=
  ∑ k : Fin 7168, (x (ix2 r k) : EReal) * ((w (ix3 0 k n) : EReal)
    * Ideal.exp2 (((IntOp.subi ((s (ix3 0 (⟨k.val / 32, by have := k.isLt; omega⟩ : Fin 224) n)).setWidth 32) 127#32).toInt : ℝ) : EReal))

variable (g : Fin 9 → BitVec 32) (s : Fin 9 → Vec Ideal S1x224x2048 .i8) (w : Fin 9 → Vec Ideal S1x7168x2048 .fp8e4m3) (x : Vec Ideal S4096x7168 .bf16) (r : Fin 4096) (n : Fin 2048)

set_option maxHeartbeats 4000000 in
theorem chain_at : chain (F := Ideal) g s w x (ix2 r n) =
    (let e0 := Scalar.addi 0#32 (g 0)
     let e1 := Scalar.addi e0 (g 1)
     let e2 := Scalar.addi e1 (g 2)
     let e3 := Scalar.addi e2 (g 3)
     let e4 := Scalar.addi e3 (g 4)
     let e5 := Scalar.addi e4 (g 5)
     let e6 := Scalar.addi e5 (g 6)
     let e7 := Scalar.addi e6 (g 7)
     let e8 := Scalar.addi e7 (g 8)
     sel r.val e7 e8 (pr (s 8) (w 8) x r n) (sel r.val e6 e7 (pr (s 7) (w 7) x r n) (sel r.val e5 e6 (pr (s 6) (w 6) x r n)
      (sel r.val e4 e5 (pr (s 5) (w 5) x r n) (sel r.val e3 e4 (pr (s 4) (w 4) x r n) (sel r.val e2 e3 (pr (s 3) (w 3) x r n)
        (sel r.val e1 e2 (pr (s 2) (w 2) x r n) (sel r.val e0 e1 (pr (s 1) (w 1) x r n) (sel r.val 0#32 e0 (pr (s 0) (w 0) x r n) 0))))))))) := by
  unfold chain
  dsimp only
  pointwise [k0_pay1, k0_pay2, k0_pay3, k0_pay4, k0_pay5, k0_pay6, k0_pay7, k0_pay8, k0_pay9, k0_pay10, k0_pay11]
  rfl

end Cert.ReferenceIdeal.Val

end
-- ==== Proof.RefOut.lean ====
/- What the reference's run stores. -/
module

public import proofs.«01_k».proof.Proof.RefPay
public import proofs.«01_k».proof.Proof.Gen.ReferenceIdeal.Value

@[expose] public section

set_option maxRecDepth 16384

noncomputable section

namespace Cert.ReferenceIdeal.Val

open Cert.ReferenceIdeal Cert.ReferenceIdeal.Gen Idealize.ShloMosaic Idealize.ShloMosaic.TcCoe

variable {F : FTy → Type} [FloatOps F]

/-- A load of one of nine matrices. -/
theorem read_mat {b d : Nat} {e : EltTy} {sp : Space} (v : View sig .tc sp ⟨3, ![9, b, d]⟩ e) (f : v.ty.Contents (Elt F)) {x : (⟨3, ![9, b, d]⟩ : Shape).Idx → Elt F e} (k : Fin 9)
    (inb : ∀ a, (![k.val, 0, 0] : Fin 3 → Nat) a + (![1, b, d] : Fin 3 → Nat) a ≤ (⟨3, ![9, b, d]⟩ : Shape).size a) (hx : v.read (Elt F) f = x) :
    View.readAt (Elt F) v (Rect.unit (s := ⟨3, ![9, b, d]⟩) ![k.val, 0, 0] ![1, b, d] inb).toLoadRect f = fun y => x (ix3 k (y 1) (y 2)) := by
  subst hx
  funext y
  refine congrArg (v.read (Elt F) f) ((Rect.unit (s := ⟨3, ![9, b, d]⟩) ![k.val, 0, 0] ![1, b, d] inb).emb_eq_of_coords _ _ fun (a : Fin 3) => ?_)
  have h0 : (y 0).val = 0 := Nat.lt_one_iff.1 (y 0).isLt
  match a with
  | 0 => show k.val = k.val + 1 * (y 0).val; omega
  | 1 => show (y 1).val = 0 + 1 * (y 1).val; omega
  | 2 => show (y 2).val = 0 + 1 * (y 2).val; omega

/-- A load of one of nine words. -/
theorem read_word {sp : Space} (v : View sig .tc sp S9 .i32) (f : v.ty.Contents (Elt F)) {x : S9.Idx → Elt F .i32} (k : Fin 9)
    (inb : ∀ a, (![k.val] : Fin 1 → Nat) a + (![1] : Fin 1 → Nat) a ≤ S9.size a) (h1) (hx : v.read (Elt F) f = x) :
    View.readAt (Elt F) v (Rect.unit (s := S9) ![k.val] ![1] inb).toLoadRect f (Shape.Idx.first (s := S1) h1) = x (ix1 k) := by
  subst hx
  refine congrArg (v.read (Elt F) f) ((Rect.unit (s := S9) ![k.val] ![1] inb).emb_eq_of_coords _ _ fun (a : Fin 1) => ?_)
  obtain rfl : a = 0 := Subsingleton.elim _ _
  have h0 : (Shape.Idx.first (s := S1) h1 0).val = 0 := Nat.lt_one_iff.1 (Shape.Idx.first (s := S1) h1 0).isLt
  show k.val = k.val + 1 * (Shape.Idx.first (s := S1) h1 0).val
  omega

/-- The rectangle that is the whole array puts every index in its place. -/
theorem whole_coords {a b : Nat} (inb : ∀ x, (![0, 0] : Fin 2 → Nat) x + (![a, b] : Fin 2 → Nat) x ≤ (⟨2, ![a, b]⟩ : Shape).size x) (p : (⟨2, ![a, b]⟩ : Shape).Idx) :
    ∀ x, (p x).val = (Rect.unit (s := ⟨2, ![a, b]⟩) ![0, 0] ![a, b] inb).off x + (Rect.unit (s := ⟨2, ![a, b]⟩) ![0, 0] ![a, b] inb).stride x * (p x).val := by
  intro x
  show (p x).val = (![0, 0] : Fin 2 → Nat) x + 1 * (p x).val
  fin_cases x <;> exact ((Nat.zero_add _).trans (Nat.one_mul _)).symm

/-- A load of the whole buffer reads its contents. -/
theorem read_whole {a b : Nat} {e : EltTy} {sp : Space} (v : View sig .tc sp ⟨2, ![a, b]⟩ e) (f : v.ty.Contents (Elt F)) {x : (⟨2, ![a, b]⟩ : Shape).Idx → Elt F e}
    (inb : ∀ x, (![0, 0] : Fin 2 → Nat) x + (![a, b] : Fin 2 → Nat) x ≤ (⟨2, ![a, b]⟩ : Shape).size x) (hx : v.read (Elt F) f = x) :
    View.readAt (Elt F) v (Rect.unit (s := ⟨2, ![a, b]⟩) ![0, 0] ![a, b] inb).toLoadRect f = x := by
  subst hx
  funext p
  exact congrArg (v.read (Elt F) f) ((Rect.unit (s := ⟨2, ![a, b]⟩) ![0, 0] ![a, b] inb).emb_eq_of_coords p p (whole_coords inb p))

theorem inb_g : ∀ (k : Fin 9) (a : Fin 1), (![k.val] : Fin 1 → Nat) a + (![1] : Fin 1 → Nat) a ≤ S9.size a := by decide
theorem inb_w (k : Fin 9) : ∀ a : Fin 3, (![k.val, 0, 0] : Fin 3 → Nat) a + (![1, 7168, 2048] : Fin 3 → Nat) a ≤ S9x7168x2048.size a := fun a => by
  have := k.isLt
  match a with
  | 0 => show k.val + 1 ≤ 9; omega
  | 1 => show 0 + 7168 ≤ 7168; omega
  | 2 => show 0 + 2048 ≤ 2048; omega
theorem inb_s (k : Fin 9) : ∀ a : Fin 3, (![k.val, 0, 0] : Fin 3 → Nat) a + (![1, 224, 2048] : Fin 3 → Nat) a ≤ S9x224x2048.size a := fun a => by
  have := k.isLt
  match a with
  | 0 => show k.val + 1 ≤ 9; omega
  | 1 => show 0 + 224 ≤ 224; omega
  | 2 => show 0 + 2048 ≤ 2048; omega

theorem chain_congr {g g' : Fin 9 → BitVec 32} {s s' : Fin 9 → Vec F S1x224x2048 .i8} {w w' : Fin 9 → Vec F S1x7168x2048 .fp8e4m3} {x x' : Vec F S4096x7168 .bf16}
    (hg : g = g') (hs : s = s') (hw : w = w') (hx : x = x') : chain g s w x = chain g' s' w' x' := by
  subst hg hs hw hx; rfl

theorem out_eq (c : Dev nD) (arg0 : Memref sig .tc .smem S9 .i32) (harg0 : arg0.IsWhole) (arg1 : Memref sig .tc .vmem S4096x7168 .bf16) (harg1 : arg1.IsWhole) (arg2 : Memref sig .tc .vmem S9x7168x2048 .fp8e4m3) (harg2 : arg2.IsWhole) (arg3 : Memref sig .tc .vmem S9x224x2048 .i8) (harg3 : arg3.IsWhole) (arg4 : Memref sig .tc .vmem S4096x2048 .bf16) (harg4 : arg4.IsWhole)
    (x0 : Vec F S9 .i32) (x1 : Vec F S4096x7168 .bf16) (x2 : Vec F S9x7168x2048 .fp8e4m3) (x3 : Vec F S9x224x2048 .i8) :
    out0_A_4 c arg0 harg0 arg1 harg1 arg2 harg2 arg3 harg3 arg4 harg4 x0 x1 x2 x3
      = chain (fun e => x0 (ix1 e)) (fun e y => x3 (ix3 e (y 1) (y 2))) (fun e y => x2 (ix3 e (y 1) (y 2))) x1 := by
  unfold out0_A_4 kernelRun0_A
  dsimp only
  funext p
  refine (View.read_writes_cons_hit_of_coords _ _ _ _ _ p p (whole_coords _ p)).trans ?_
  refine Eq.trans (b := chain (F := F)
    (fun e => View.readAt (Elt F) arg0.view (Rect.unit (s := S9) ![e.val] ![1] (inb_g e)).toLoadRect (harg0.unread x0) (Shape.Idx.first (s := S1) (numel1_S1.symm ▸ Nat.one_pos)))
    (fun e => View.readAt (Elt F) arg3.view (Rect.unit (s := S9x224x2048) ![e.val, 0, 0] ![1, 224, 2048] (inb_s e)).toLoadRect (harg3.unread x3))
    (fun e => View.readAt (Elt F) arg2.view (Rect.unit (s := S9x7168x2048) ![e.val, 0, 0] ![1, 7168, 2048] (inb_w e)).toLoadRect (harg2.unread x2))
    (View.readAt (Elt F) arg1.view (Rect.unit (s := S4096x7168) ![0, 0] ![4096, 7168] inb_S4096x7168_S4096x7168_0_0).toLoadRect (harg1.unread x1)) p) rfl ?_
  exact congrFun (chain_congr (funext fun e => read_word _ _ e _ _ (harg0.read_unread _)) (funext fun e => read_mat _ _ e _ (harg3.read_unread _))
    (funext fun e => read_mat _ _ e _ (harg2.read_unread _)) (read_whole _ _ _ (harg1.read_unread _))) p

end Cert.ReferenceIdeal.Val

end
-- ==== Proof.RefValue.lean ====
/- The reference's result, element by element: the product of a row with its own expert's weights, each times its scale. -/
module

public import proofs.«01_k».proof.Proof.RefOut
public import proofs.«01_k».proof.Proof.Pre

@[expose] public section

set_option maxRecDepth 16384

noncomputable section

namespace Cert.ReferenceIdeal.Val

open Cert.ReferenceIdeal Cert.ReferenceIdeal.Gen Idealize.ShloMosaic Idealize.ShloMosaic.TcCoe Idealize.ShloMosaic.Routing

/-! ## The selects -/

theorem sel_nat (r a b : Nat) (hr : r < 2 ^ 31) (ha : a < 2 ^ 31) (hb : b < 2 ^ 31) (p q : EReal) :
    sel r (BitVec.ofNat 32 a) (BitVec.ofNat 32 b) p q = if a ≤ r ∧ r < b then p else q := by
  unfold sel
  rw [WordCmp.cmpi_sge_ofNat (by simpa using hr) (by simpa using ha), WordCmp.cmpi_slt_ofNat (by simpa using hr) (by simpa using hb)]
  show (if _ = 1 then _ else _) = _
  refine if_congr ?_ rfl rfl
  by_cases h1 : a ≤ r <;> by_cases h2 : r < b <;> simp [IntOp.andi, h1, h2]

/-- Of nine consecutive ranges the one that holds `r` decides. -/
theorem pick (E : Nat → Nat) (hE : ∀ j, E j ≤ E (j + 1)) (P : Fin 9 → EReal) (r : Nat) (e : Fin 9)
    (h1 : e.val = 0 ∨ E (e.val - 1) ≤ r) (h2 : r < E e.val) :
    (if E 7 ≤ r ∧ r < E 8 then P 8 else if E 6 ≤ r ∧ r < E 7 then P 7 else if E 5 ≤ r ∧ r < E 6 then P 6 else
      if E 4 ≤ r ∧ r < E 5 then P 5 else if E 3 ≤ r ∧ r < E 4 then P 4 else if E 2 ≤ r ∧ r < E 3 then P 3 else
      if E 1 ≤ r ∧ r < E 2 then P 2 else if E 0 ≤ r ∧ r < E 1 then P 1 else if 0 ≤ r ∧ r < E 0 then P 0 else 0) = P e := by
  have e0 := hE 0; have e1 := hE 1; have e2 := hE 2; have e3 := hE 3; have e4 := hE 4; have e5 := hE 5; have e6 := hE 6; have e7 := hE 7
  simp only [Nat.zero_add, Nat.reduceAdd] at e0 e1 e2 e3 e4 e5 e6 e7
  match e, h1, h2 with
  | ⟨0, _⟩, h1, h2 =>
    replace h2 : r < E 0 := h2
    clear h1
    refine (if_neg (by omega)).trans ?_
    refine (if_neg (by omega)).trans ?_
    refine (if_neg (by omega)).trans ?_
    refine (if_neg (by omega)).trans ?_
    refine (if_neg (by omega)).trans ?_
    refine (if_neg (by omega)).trans ?_
    refine (if_neg (by omega)).trans ?_
    refine (if_neg (by omega)).trans ?_
    exact if_pos (by omega)
  | ⟨1, _⟩, h1, h2 =>
    replace h2 : r < E 1 := h2
    replace h1 : E 0 ≤ r := h1.resolve_left (Nat.succ_ne_zero _)
    refine (if_neg (by omega)).trans ?_
    refine (if_neg (by omega)).trans ?_
    refine (if_neg (by omega)).trans ?_
    refine (if_neg (by omega)).trans ?_
    refine (if_neg (by omega)).trans ?_
    refine (if_neg (by omega)).trans ?_
    refine (if_neg (by omega)).trans ?_
    exact if_pos (by omega)
  | ⟨2, _⟩, h1, h2 =>
    replace h2 : r < E 2 := h2
    replace h1 : E 1 ≤ r := h1.resolve_left (Nat.succ_ne_zero _)
    refine (if_neg (by omega)).trans ?_
    refine (if_neg (by omega)).trans ?_
    refine (if_neg (by omega)).trans ?_
    refine (if_neg (by omega)).trans ?_
    refine (if_neg (by omega)).trans ?_
    refine (if_neg (by omega)).trans ?_
    exact if_pos (by omega)
  | ⟨3, _⟩, h1, h2 =>
    replace h2 : r < E 3 := h2
    replace h1 : E 2 ≤ r := h1.resolve_left (Nat.succ_ne_zero _)
    refine (if_neg (by omega)).trans ?_
    refine (if_neg (by omega)).trans ?_
    refine (if_neg (by omega)).trans ?_
    refine (if_neg (by omega)).trans ?_
    refine (if_neg (by omega)).trans ?_
    exact if_pos (by omega)
  | ⟨4, _⟩, h1, h2 =>
    replace h2 : r < E 4 := h2
    replace h1 : E 3 ≤ r := h1.resolve_left (Nat.succ_ne_zero _)
    refine (if_neg (by omega)).trans ?_
    refine (if_neg (by omega)).trans ?_
    refine (if_neg (by omega)).trans ?_
    refine (if_neg (by omega)).trans ?_
    exact if_pos (by omega)
  | ⟨5, _⟩, h1, h2 =>
    replace h2 : r < E 5 := h2
    replace h1 : E 4 ≤ r := h1.resolve_left (Nat.succ_ne_zero _)
    refine (if_neg (by omega)).trans ?_
    refine (if_neg (by omega)).trans ?_
    refine (if_neg (by omega)).trans ?_
    exact if_pos (by omega)
  | ⟨6, _⟩, h1, h2 =>
    replace h2 : r < E 6 := h2
    replace h1 : E 5 ≤ r := h1.resolve_left (Nat.succ_ne_zero _)
    refine (if_neg (by omega)).trans ?_
    refine (if_neg (by omega)).trans ?_
    exact if_pos (by omega)
  | ⟨7, _⟩, h1, h2 =>
    replace h2 : r < E 7 := h2
    replace h1 : E 6 ≤ r := h1.resolve_left (Nat.succ_ne_zero _)
    refine (if_neg (by omega)).trans ?_
    exact if_pos (by omega)
  | ⟨8, _⟩, h1, h2 =>
    replace h2 : r < E 8 := h2
    replace h1 : E 7 ≤ r := h1.resolve_left (Nat.succ_ne_zero _)
    exact if_pos (by omega)

/-- The nested selects of the reference, at a row that expert `e` owns. -/
theorem chain_owner (G : IVec (shape1 9) 32) (hG : Cert.Pre.Sized G) (s : Fin 9 → Vec Ideal S1x224x2048 .i8) (w : Fin 9 → Vec Ideal S1x7168x2048 .fp8e4m3) (x : Vec Ideal S4096x7168 .bf16)
    (e : Fin 9) (r : Fin 4096) (n : Fin 2048) (h1 : WorkList.st (Cert.Pre.size G) e.val ≤ r.val) (h2 : r.val < WorkList.en (Cert.Pre.size G) e.val) :
    chain (F := Ideal) (fun e => G (ix1 e)) s w x (ix2 r n) = pr (s e) (w e) x r n := by
  have hb : ∀ j, j ≤ 8 → WorkList.en (Cert.Pre.size G) j < 2 ^ 31 := fun j hj =>
    Nat.lt_of_le_of_lt ((WorkList.en_mono _ hj).trans hG.sum.le) (by decide)
  have hr : r.val < 2 ^ 31 := Nat.lt_trans r.isLt (by decide)
  have e0 : Scalar.addi 0#32 (G (ix1 0)) = BitVec.ofNat 32 (WorkList.en (Cert.Pre.size G) 0) := by
    rw [WorkList.en_zero]; exact (BitVec.zero_add _).trans (hG.word 0)
  have es : ∀ j : Fin 9, ∀ i : Nat, j.val = i + 1 → Scalar.addi (BitVec.ofNat 32 (WorkList.en (Cert.Pre.size G) i)) (G (ix1 j)) = BitVec.ofNat 32 (WorkList.en (Cert.Pre.size G) (i + 1)) := by
    intro j i hj
    rw [WorkList.en_succ, BitVec.ofNat_add, ← hj, ← hG.word j]
    rfl
  rw [chain_at]
  dsimp only
  rw [e0, es 1 0 rfl, es 2 1 rfl, es 3 2 rfl, es 4 3 rfl, es 5 4 rfl, es 6 5 rfl, es 7 6 rfl, es 8 7 rfl]
  rw [sel_nat _ _ _ hr (hb 7 (by decide)) (hb 8 (by decide)), sel_nat _ _ _ hr (hb 6 (by decide)) (hb 7 (by decide)), sel_nat _ _ _ hr (hb 5 (by decide)) (hb 6 (by decide)),
    sel_nat _ _ _ hr (hb 4 (by decide)) (hb 5 (by decide)), sel_nat _ _ _ hr (hb 3 (by decide)) (hb 4 (by decide)), sel_nat _ _ _ hr (hb 2 (by decide)) (hb 3 (by decide)),
    sel_nat _ _ _ hr (hb 1 (by decide)) (hb 2 (by decide)), sel_nat _ _ _ hr (hb 0 (by decide)) (hb 1 (by decide)), sel_nat _ 0 _ hr (by decide) (hb 0 (by decide))]
  refine pick (WorkList.en (Cert.Pre.size G)) (fun j => WorkList.en_mono _ (Nat.le_succ j)) (fun e => pr (s e) (w e) x r n) r.val e ?_ h2
  obtain ⟨e, he⟩ := e
  cases e with
  | zero => exact .inl rfl
  | succ e => exact .inr ((WorkList.st_succ _ e).symm.le.trans h1)

/-! ## The blocks, which are the whole arrays -/

theorem idx0 : ∀ (t : Fin cfg0.N) (a : Fin 1), win0_0.index t a = 0 := by decide +kernel
theorem idx1 : ∀ (t : Fin cfg0.N) (a : Fin 2), win0_1.index t a = 0 := by decide +kernel
theorem idx2 : ∀ (t : Fin cfg0.N) (a : Fin 3), win0_2.index t a = 0 := by decide +kernel
theorem idx3 : ∀ (t : Fin cfg0.N) (a : Fin 3), win0_3.index t a = 0 := by decide +kernel
theorem idx4 : ∀ (t : Fin cfg0.N) (a : Fin 2), win0_4.index t a = 0 := by decide +kernel

theorem whole0 (t : Fin cfg0.N) (v : Vec Ideal S9 .i32) : (((cfg0.win 0).blk t).view.read (Elt Ideal) v : Vec Ideal S9 .i32) = v :=
  funext fun p => congrArg v (funext fun (a : Fin 1) => Fin.ext ((congrArg (fun z : Nat => z * S9.size a + 1 * (p a).val) (idx0 t a)).trans (by omega)))
theorem whole1 (t : Fin cfg0.N) (v : Vec Ideal S4096x7168 .bf16) : (((cfg0.win 1).blk t).view.read (Elt Ideal) v : Vec Ideal S4096x7168 .bf16) = v :=
  funext fun p => congrArg v (funext fun (a : Fin 2) => Fin.ext ((congrArg (fun z : Nat => z * S4096x7168.size a + 1 * (p a).val) (idx1 t a)).trans (by omega)))
theorem whole2 (t : Fin cfg0.N) (v : Vec Ideal S9x7168x2048 .fp8e4m3) : (((cfg0.win 2).blk t).view.read (Elt Ideal) v : Vec Ideal S9x7168x2048 .fp8e4m3) = v :=
  funext fun p => congrArg v (funext fun (a : Fin 3) => Fin.ext ((congrArg (fun z : Nat => z * S9x7168x2048.size a + 1 * (p a).val) (idx2 t a)).trans (by omega)))
theorem whole3 (t : Fin cfg0.N) (v : Vec Ideal S9x224x2048 .i8) : (((cfg0.win 3).blk t).view.read (Elt Ideal) v : Vec Ideal S9x224x2048 .i8) = v :=
  funext fun p => congrArg v (funext fun (a : Fin 3) => Fin.ext ((congrArg (fun z : Nat => z * S9x224x2048.size a + 1 * (p a).val) (idx3 t a)).trans (by omega)))
theorem whole4 (t : Fin cfg0.N) (v : Vec Ideal S4096x2048 .bf16) : (((cfg0.win 4).blk t).view.read (Elt Ideal) v : Vec Ideal S4096x2048 .bf16) = v :=
  funext fun p => congrArg v (funext fun (a : Fin 2) => Fin.ext ((congrArg (fun z : Nat => z * S4096x2048.size a + 1 * (p a).val) (idx4 t a)).trans (by omega)))

variable (m : (ℓ : Loc nD τ sig) → Buf (Elt Ideal) ℓ)

theorem flush4 : (cfg0.win 4).flush (0 : Fin 1) = true := by decide +kernel

theorem chain_args {x0 : Vec Ideal S9 .i32} {x1 : Vec Ideal S4096x7168 .bf16} {x2 : Vec Ideal S9x7168x2048 .fp8e4m3} {x3 : Vec Ideal S9x224x2048 .i8}
    {y0 : Vec Ideal S9 .i32} {y1 : Vec Ideal S4096x7168 .bf16} {y2 : Vec Ideal S9x7168x2048 .fp8e4m3} {y3 : Vec Ideal S9x224x2048 .i8}
    (h0 : x0 = y0) (h1 : x1 = y1) (h2 : x2 = y2) (h3 : x3 = y3) :
    chain (F := Ideal) (fun e => x0 (ix1 e)) (fun e y => x3 (ix3 e (y 1) (y 2))) (fun e y => x2 (ix3 e (y 1) (y 2))) x1
      = chain (F := Ideal) (fun e => y0 (ix1 e)) (fun e y => y3 (ix3 e (y 1) (y 2))) (fun e y => y2 (ix3 e (y 1) (y 2))) y1 := by
  subst h0 h1 h2 h3; rfl

/-- The reference's result is the chain of its arguments. -/
theorem arr_eq (c : Dev nD) : ((dats m 0 c).arrAt 4 cfg0.N : Vec Ideal S4096x2048 .bf16)
    = chain (F := Ideal) (fun e => (m ((c : Thread nD τ).loc main_arg1) : Vec Ideal S9 .i32) (ix1 e))
      (fun e y => (m ((c : Thread nD τ).loc main_arg3) : Vec Ideal S9x224x2048 .i8) (ix3 e (y 1) (y 2)))
      (fun e y => (m ((c : Thread nD τ).loc main_arg2) : Vec Ideal S9x7168x2048 .fp8e4m3) (ix3 e (y 1) (y 2)))
      (m ((c : Thread nD τ).loc main_arg0)) := by
  have h := (Value.blocks4 m c (0 : Fin 1) flush4).trans (Value.flushed4_A m c (0 : Fin 1))
  refine (whole4 (0 : Fin 1) _).symm.trans (h.trans ?_)
  refine Eq.trans (b := out0_A_4 c (ms0_0 (0 : Fin 1)) (hs0_0 (0 : Fin 1)) (ms0_1 (0 : Fin 1)) (hs0_1 (0 : Fin 1)) (ms0_2 (0 : Fin 1)) (hs0_2 (0 : Fin 1)) (ms0_3 (0 : Fin 1)) (hs0_3 (0 : Fin 1)) (ms0_4 (0 : Fin 1)) (hs0_4 (0 : Fin 1))
    (iblk m c 0 (0 : Fin 1)) (iblk m c 1 (0 : Fin 1)) (iblk m c 2 (0 : Fin 1)) (iblk m c 3 (0 : Fin 1))) rfl ?_
  refine (out_eq (F := Ideal) c _ _ _ _ _ _ _ _ _ _ _ _ _ _).trans ?_
  exact chain_args ((whole0 (0 : Fin 1) _).trans (V_main_arg1 m c)) ((whole1 (0 : Fin 1) _).trans (V_main_arg0 m c)) ((whole2 (0 : Fin 1) _).trans (V_main_arg2 m c)) ((whole3 (0 : Fin 1) _).trans (V_main_arg3 m c))

end Cert.ReferenceIdeal.Val

end
-- ==== Proof.Scale.lean ====
/- The scale of a code, built from its bit pattern and as a power of two. -/
module

public import Idealize.ShloMosaic.PureOps.Ideal
public import Idealize.ShloMosaic.Lib.Pointwise

@[expose] public section

namespace Cert.Scale

open Idealize.ShloMosaic

/-- A code's exponent, as the reference computes it. -/
theorem exponent : ∀ s : BitVec 8, (IntOp.subi (s.setWidth 32) 127#32).toInt = (s.toNat : Int) - 127 := by decide +kernel

theorem sign_bit : ∀ s : BitVec 8, ((s.setWidth 16 <<< 7).extractLsb' 15 1 == 1#1) = false := by decide +kernel
theorem exponent_bits : ∀ s : BitVec 8, ((s.setWidth 16 <<< 7).extractLsb' 7 8).toNat = s.toNat := by decide +kernel
theorem fraction_bits : ∀ s : BitVec 8, ((s.setWidth 16 <<< 7).extractLsb' 0 7).toNat = 0 := by decide +kernel

/-- For a code from 1 to 254 the number whose exponent field is the code is two to the code less the bias. -/
theorem pow_eq (s : BitVec 8) (h1 : 1 ≤ s.toNat) (h2 : s.toNat ≤ 254) :
    Ideal.ofBits .bf16 (s.setWidth 16 <<< 7) = Ideal.exp2 (((IntOp.subi (s.setWidth 32) 127#32).toInt : ℝ) : EReal) := by
  rw [exponent, Ideal.exp2_coe]
  show Ideal.ieee 8 7 (s.setWidth 16 <<< 7) = _
  unfold Ideal.ieee
  dsimp only
  rw [show (8 + 7 : Nat) = 15 from rfl, sign_bit, exponent_bits, fraction_bits, if_neg (by omega), if_neg (by omega)]
  refine congrArg _ ?_
  rw [if_neg (by decide)]
  show (1 : ℝ) * ((2 ^ 7 + 0 : Nat) : ℝ) * (2 : ℝ) ^ (((s.toNat : Int) - (2 ^ (8 - 1) - 1)) - (7 : Nat)) = (2 : ℝ) ^ (((s.toNat : Int) - 127 : Int) : ℝ)
  rw [Real.rpow_intCast]
  rw [zpow_sub₀ (by norm_num : (2 : ℝ) ≠ 0) _ ((7 : Nat) : Int)]
  norm_num
  ring

end Cert.Scale
-- ==== Proof.Algebraic.lean ====
/- The idealised kernel and the reference end with one result. -/
module

public import proofs.«01_k».proof.Proof.KernelIdeal.Result
public import proofs.«01_k».proof.Proof.RefValue
public import proofs.«01_k».proof.Proof.Scale
public import proofs.«01_k».proof.Proof.PreValid
public import proofs.«01_k».proof.Defs

@[expose] public section

noncomputable section

namespace Cert.Proof

open Idealize.ShloMosaic Idealize.ShloMosaic.TcCoe Idealize.SL.Sem
open Cert.KernelIdeal (S4096x7168 S9x7168x2048 S9x224x2048 S4096x2048)
open Cert.KernelIdeal.Run (prodOf prodAt wEl)
open Cert.ReferenceIdeal.Val (pr)

/-- Every row has an owner: the first expert whose rows end past it. -/
theorem owner (s : Nat → Nat) (hs : WorkList.en s 8 = 4096) (r : Fin 4096) : ∃ e : Fin 9, WorkList.st s e.val ≤ r.val ∧ r.val < WorkList.en s e.val := by
  classical
  have hex : ∃ e, r.val < WorkList.en s e := ⟨8, Nat.lt_of_lt_of_eq r.isLt hs.symm⟩
  have h8 : Nat.find hex ≤ 8 := Nat.find_min' hex (Nat.lt_of_lt_of_eq r.isLt hs.symm)
  refine ⟨⟨Nat.find hex, Nat.lt_succ_of_le h8⟩, ?_, Nat.find_spec hex⟩
  show WorkList.st s (Nat.find hex) ≤ r.val
  rcases h : Nat.find hex with _ | k
  · rw [WorkList.st_zero]; exact Nat.zero_le _
  · rw [WorkList.st_succ]
    exact Nat.le_of_not_lt (Nat.find_min hex (by omega))

/-- A dequantised weight: the scale from its bits is the power of two of its code. -/
theorem weight (w : EReal) (s : BitVec 8) (h1 : 1 ≤ s.toNat) (h2 : s.toNat ≤ 254) :
    (wEl (F := Ideal) w s : EReal) = w * Ideal.exp2 (((IntOp.subi (s.setWidth 32) 127#32).toInt : ℝ) : EReal) :=
  congrArg (fun z : EReal => w * z) (Cert.Scale.pow_eq s h1 h2)

/-- The two products are one. -/
theorem product (x : Vec Ideal S4096x7168 .bf16) (w : Vec Ideal S9x7168x2048 .fp8e4m3) (s : Vec Ideal S9x224x2048 .i8)
    (hv : ∀ (e : Fin 9) (b : Fin 224) (n : Fin 2048), 1 ≤ (s (ix3 e b n) : BitVec 8).toNat ∧ (s (ix3 e b n) : BitVec 8).toNat ≤ 254)
    (e : Fin 9) (row : Fin 4096) (col : Fin 2048) :
    prodOf x w s e row col = pr (fun y => s (ix3 e (y 1) (y 2))) (fun y => w (ix3 e (y 1) (y 2))) x row col :=
  Finset.sum_congr rfl fun k _ => congrArg (fun z : EReal => (x (ix2 row k) : EReal) * z) (weight _ _ (hv e _ col).1 (hv e _ col).2)

/-- The algebraic claim. -/
theorem algebraic : Cert.algebraic_KernelIdeal_ReferenceIdeal_pre_valid (hKernelIdeal := Cert.KernelIdeal.Gen.facts) (hReferenceIdeal := Cert.ReferenceIdeal.Gen.facts) (hPre_valid := Cert.Pre.valid_facts) := by
  intro m g m' g' hpre hargs
  have hv := Cert.Pre.of_valid _ _ _ _ (hpre 0)
  have hp : Cert.Pre.Sized (Cert.KernelIdeal.Run.groups m) := hv.1
  refine ⟨fun c => ((Cert.ReferenceIdeal.Gen.dats m' 0 c).arrAt 4 Cert.ReferenceIdeal.cfg0.N : Vec Ideal S4096x2048 .bf16), ?_, Cert.ReferenceIdeal.Value.run_blocks m' g'⟩
  refine (θ_run Cert.KernelIdeal.defs _ _).mono (fun r h c => ⟨?_, (h c).2⟩) (Cert.KernelIdeal.Run.result m g hp (Cert.KernelIdeal.Run.ok_of_sized hp))
  obtain rfl : c = 0 := Subsingleton.elim _ _
  funext p
  have hpx : p = ix2 (p 0) (p 1) := ValueIdx.eq_ix2 p
  rw [hpx]
  obtain ⟨e, h1, h2⟩ := owner _ hp.sum (p 0)
  refine ((h 0).1 e (p 0) (p 1) h1 h2).trans ?_
  refine Eq.trans ?_ (congrFun (Cert.ReferenceIdeal.Val.arr_eq m' 0) (ix2 (p 0) (p 1))).symm
  obtain ⟨a0, a1, a2, a3⟩ := hargs 0
  refine Eq.trans ?_ (congrFun (Cert.ReferenceIdeal.Val.chain_args a1 a0 a2 a3) (ix2 (p 0) (p 1))).symm
  refine Eq.trans ?_ (Cert.ReferenceIdeal.Val.chain_owner _ hp _ _ _ e (p 0) (p 1) h1 h2).symm
  exact product _ _ _ hv.2 e (p 0) (p 1)

end Cert.Proof

end
-- ==== Proof.lean ====
/- The claims, from their parts. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal.Frame
public import proofs.«01_k».proof.Proof.Gen.ReferenceIdeal.Value
public import proofs.«01_k».proof.Proof.Gen.Pre_sized
public import proofs.«01_k».proof.Proof.Kernel.Admissible
public import proofs.«01_k».proof.Proof.Kernel.Frame
public import proofs.«01_k».proof.Proof.KernelIdeal.Admissible
public import proofs.«01_k».proof.Proof.KernelIdeal.Frame
public import proofs.«01_k».proof.Proof.PreValid
public import proofs.«01_k».proof.Proof.Algebraic
public import Idealize.ShloMosaic.Adequacy
public import Idealize.ShloMosaic.Init

@[expose] public section

noncomputable section

namespace Cert.Proof

open Idealize.ShloMosaic Idealize.SL.Sem

/-- The claims hold. -/
theorem claim : Cert.Claim :=
  ⟨Cert.Kernel.Gen.facts, Cert.KernelIdeal.Gen.facts, Cert.ReferenceIdeal.Gen.facts, Cert.Pre_sized.Gen.facts, Cert.Pre.valid_facts,
    fun m ρ h => Cert.Kernel.Run.frame m ρ (Cert.Kernel.Run.ok_of_sized (Cert.Pre.of_sized _ _ _ _ (h 0))),
    fun m ρ h => Cert.KernelIdeal.Run.frame m ρ (Cert.KernelIdeal.Run.ok_of_sized (Cert.Pre.of_sized _ _ _ _ (h 0))),
    fun m ρ h => Cert.KernelIdeal.Run.frame m ρ (Cert.KernelIdeal.Run.ok_of_sized (Cert.Pre.of_valid _ _ _ _ (h 0)).1),
    fun m ρ _ => Cert.ReferenceIdeal.Gen.frame m ρ,
    fun m ρ _ => Cert.ReferenceIdeal.Gen.frame m ρ,
    trivial,
    algebraic⟩

end Cert.Proof

end
